-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1024x32 : Shape := ⟨2, ![1024, 32]⟩
abbrev S100000x32 : Shape := ⟨2, ![100000, 32]⟩
abbrev S_ : Shape := ⟨0, ![]⟩

class Facts : Prop where
  bcast_S_S1024x32 : S_.BroadcastsInDim S1024x32 (![] : Fin 0 → Fin S1024x32.rank)
  reducesTo_S1024x32_S_d0_1 : S1024x32.ReducesTo [0, 1] S_
  h_S_ : 0 < S_.numel
  bcast_S_S100000x32 : S_.BroadcastsInDim S100000x32 (![] : Fin 0 → Fin S100000x32.rank)
  reducesTo_S100000x32_S_d0_1 : S100000x32.ReducesTo [0, 1] S_

variable [Facts]

def fn {F : FTy → Type} [FloatOps F] (main_arg0 : FVec F S1024x32 .f32) (main_arg1 : FVec F S100000x32 .f32) : IVec S_ 1 :=
  let main_v0 : FVec F S1024x32 .f32 := Host.absf main_arg0
  let main_cst : FVec F S_ .f32 := constant S_ .f32 0x7F800000#32
  let main_v1 : FVec F S1024x32 .f32 := broadcastInDim S1024x32 ![] bcast_S_S1024x32 main_cst
  let main_v2 : IVec S1024x32 1 := cmpf .olt main_v0 main_v1
  let main_c : IVec S_ 1 := constantI S_ 1 1#1
  let main_v3 : IVec S_ 1 := (fun x v => Host.reduce IntOp.andi x v reducesTo_S1024x32_S_d0_1 h_S_) main_v2 main_c
  let main_v4 : FVec F S100000x32 .f32 := Host.absf main_arg1
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  main_v8
-- ==== Kernel.lean ====
abbrev S1024x32 : Shape := ⟨2, ![1024, 32]⟩
abbrev S100000x32 : Shape := ⟨2, ![100000, 32]⟩
abbrev S_ : Shape := ⟨0, ![]⟩
abbrev S100352x32 : Shape := ⟨2, ![100352, 32]⟩
abbrev S256x32 : Shape := ⟨2, ![256, 32]⟩
abbrev S6272x32 : Shape := ⟨2, ![6272, 32]⟩
abbrev S256x128 : Shape := ⟨2, ![256, 128]⟩
abbrev S256x1 : Shape := ⟨2, ![256, 1]⟩
abbrev S256x6272 : Shape := ⟨2, ![256, 6272]⟩
abbrev S256 : Shape := ⟨1, ![256]⟩
abbrev S1x256 : Shape := ⟨2, ![1, 256]⟩
abbrev S1 : Shape := ⟨1, ![1]⟩
abbrev S1x1 : Shape := ⟨2, ![1, 1]⟩
abbrev S1x256x128 : Shape := ⟨3, ![1, 256, 128]⟩
abbrev S1x1x1 : Shape := ⟨3, ![1, 1, 1]⟩
abbrev S256x256 : Shape := ⟨2, ![256, 256]⟩
abbrev S256x31 : Shape := ⟨2, ![256, 31]⟩

abbrev nBuf : Space → Nat
  | .hbm => 6
  | .vmem => 10
  | .smem => 0
  | _ => 0

abbrev bufTy : (tb : Table) → Fin (tcTables nBuf tb) → BufTy
  | .hbm, ⟨0, _⟩ => ⟨S1024x32, .f32⟩
  | .hbm, ⟨1, _⟩ => ⟨S100000x32, .f32⟩
  | .hbm, ⟨2, _⟩ => ⟨S_, .i32⟩
  | .hbm, ⟨3, _⟩ => ⟨S_, .f32⟩
  | .hbm, ⟨4, _⟩ => ⟨S100352x32, .f32⟩
  | .hbm, ⟨5, _⟩ => ⟨S1024x32, .i32⟩
  | .local _ .vmem, ⟨0, _⟩ => ⟨S256x32, .f32⟩
  | .local _ .vmem, ⟨1, _⟩ => ⟨S256x32, .f32⟩
  | .local _ .vmem, ⟨2, _⟩ => ⟨S6272x32, .f32⟩
  | .local _ .vmem, ⟨3, _⟩ => ⟨S6272x32, .f32⟩
  | .local _ .vmem, ⟨4, _⟩ => ⟨S256x32, .i32⟩
  | .local _ .vmem, ⟨5, _⟩ => ⟨S256x32, .i32⟩
  | .local _ .vmem, ⟨6, _⟩ => ⟨S256x128, .f32⟩
  | .local _ .vmem, ⟨7, _⟩ => ⟨S256x1, .f32⟩
  | .local _ .vmem, ⟨8, _⟩ => ⟨S256x32, .f32⟩
  | .local _ .vmem, ⟨9, _⟩ => ⟨S256x32, .i32⟩
  | _, _ => ⟨S1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_call0_v0 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 32], ![false, false]⟩

def k0_cond5 (i : grid0.Coords) : BitVec 1 :=
  let arg1 : BitVec 32 := BitVec.ofNat 32 (i 1).val
  let c16_i32 : BitVec 32 := 16#32
  let v0 : BitVec 1 := Scalar.cmpi .slt arg1 c16_i32
  let v_true : BitVec 1 := 1#1
  let v26 : BitVec 1 := Scalar.xori v0 v_true
  let v27 : BitVec 32 := Scalar.extui v26
  let c0_i32_10 : BitVec 32 := 0#32
  let v28 : BitVec 1 := Scalar.cmpi .ne v27 c0_i32_10
  v28

@[reducible] def k0_t1_loop (v42 : BitVec 32) : Scf.Loop 32 :=
  let c0_i32_42 : BitVec 32 := 0#32
  let c3_i32 : BitVec 32 := 3#32
  let v715 : BitVec 32 := Scalar.addi v42 c3_i32
  let c0_i32_32 : BitVec 32 := 0#32
  let v717 : BitVec 1 := Scalar.cmpi .sgt v715 c0_i32_32
  let v718 : BitVec 32 := Scalar.extui v717
  let c0_i32_33 : BitVec 32 := 0#32
  let v719 : BitVec 1 := Scalar.cmpi .slt v715 c0_i32_33
  let v720 : BitVec 32 := Scalar.extui v719
  let v721 : BitVec 32 := Scalar.subi v718 v720
  let c4_i32 : BitVec 32 := 4#32
  let c0_i32_34 : BitVec 32 := 0#32
  let v722 : BitVec 1 := Scalar.cmpi .sgt c4_i32 c0_i32_34
  let v723 : BitVec 32 := Scalar.extui v722
  let c0_i32_35 : BitVec 32 := 0#32
  let v724 : BitVec 1 := Scalar.cmpi .slt c4_i32 c0_i32_35
  let v725 : BitVec 32 := Scalar.extui v724
  let v726 : BitVec 32 := Scalar.subi v723 v725
  let v727 : BitVec 1 := Scalar.cmpi .ne v721 v726
  let v728 : BitVec 32 := Scalar.remsi v715 c4_i32
  let c0_i32_36 : BitVec 32 := 0#32
  let v729 : BitVec 1 := Scalar.cmpi .ne v728 c0_i32_36
  let v730 : BitVec 1 := Scalar.andi v727 v729
  let v716 : BitVec 32 := Scalar.divsi v715 c4_i32
  let c1_i32_37 : BitVec 32 := 1#32
  let v731 : BitVec 32 := Scalar.subi v716 c1_i32_37
  let v732 : BitVec 32 := Scalar.select v730 v731 v716
  let v735 : BitVec 32 := Scalar.subi v732 c0_i32_42
  let c1_i32_43 : BitVec 32 := 1#32
  let v737 : BitVec 32 := Scalar.divsi v735 c1_i32_43
  let v738 : BitVec 32 := Scalar.muli v737 c1_i32_43
  let v739 : BitVec 32 := Scalar.addi c0_i32_42 v738
  let c1_i32_44 : BitVec 32 := 1#32
  ⟨c0_i32_42, v739, c1_i32_44⟩
def k0_cond6 (v42 : BitVec 32) (v694 : BitVec 32) : BitVec 1 :=
  let c0_i32_24 : BitVec 32 := 0#32
  let v697 : BitVec 1 := Scalar.cmpi .sgt v42 c0_i32_24
  let c0_i32_25 : BitVec 32 := 0#32
  let v698 : BitVec 1 := Scalar.cmpi .eq v694 c0_i32_25
  let v699 : BitVec 1 := Scalar.andi v697 v698
  let v700 : BitVec 32 := Scalar.extui v699
  let c0_i32_26 : BitVec 32 := 0#32
  let v701 : BitVec 1 := Scalar.cmpi .ne v700 c0_i32_26
  v701

@[reducible] def k0_t2_loop (v42 : BitVec 32) : Scf.Loop 32 :=
  let c0_i32_42 : BitVec 32 := 0#32
  let c3_i32 : BitVec 32 := 3#32
  let v715 : BitVec 32 := Scalar.addi v42 c3_i32
  let c0_i32_32 : BitVec 32 := 0#32
  let v717 : BitVec 1 := Scalar.cmpi .sgt v715 c0_i32_32
  let v718 : BitVec 32 := Scalar.extui v717
  let c0_i32_33 : BitVec 32 := 0#32
  let v719 : BitVec 1 := Scalar.cmpi .slt v715 c0_i32_33
  let v720 : BitVec 32 := Scalar.extui v719
  let v721 : BitVec 32 := Scalar.subi v718 v720
  let c4_i32 : BitVec 32 := 4#32
  let c0_i32_34 : BitVec 32 := 0#32
  let v722 : BitVec 1 := Scalar.cmpi .sgt c4_i32 c0_i32_34
  let v723 : BitVec 32 := Scalar.extui v722
  let c0_i32_35 : BitVec 32 := 0#32
  let v724 : BitVec 1 := Scalar.cmpi .slt c4_i32 c0_i32_35
  let v725 : BitVec 32 := Scalar.extui v724
  let v726 : BitVec 32 := Scalar.subi v723 v725
  let v727 : BitVec 1 := Scalar.cmpi .ne v721 v726
  let v728 : BitVec 32 := Scalar.remsi v715 c4_i32
  let c0_i32_36 : BitVec 32 := 0#32
  let v729 : BitVec 1 := Scalar.cmpi .ne v728 c0_i32_36
  let v730 : BitVec 1 := Scalar.andi v727 v729
  let v716 : BitVec 32 := Scalar.divsi v715 c4_i32
  let c1_i32_37 : BitVec 32 := 1#32
  let v731 : BitVec 32 := Scalar.subi v716 c1_i32_37
  let v732 : BitVec 32 := Scalar.select v730 v731 v716
  let v735 : BitVec 32 := Scalar.subi v732 c0_i32_42
  let c1_i32_43 : BitVec 32 := 1#32
  let v737 : BitVec 32 := Scalar.divsi v735 c1_i32_43
  let v738 : BitVec 32 := Scalar.muli v737 c1_i32_43
  let v739 : BitVec 32 := Scalar.addi c0_i32_42 v738
  let v736 : BitVec 32 := Scalar.addi c0_i32_42 v735
  let c1_i32_45 : BitVec 32 := 1#32
  ⟨v739, v736, c1_i32_45⟩
@[reducible] def k0_t3_loop (v42 : BitVec 32) : Scf.Loop 32 :=
  let c0_i32_42 : BitVec 32 := 0#32
  let c3_i32 : BitVec 32 := 3#32
  let v715 : BitVec 32 := Scalar.addi v42 c3_i32
  let c0_i32_32 : BitVec 32 := 0#32
  let v717 : BitVec 1 := Scalar.cmpi .sgt v715 c0_i32_32
  let v718 : BitVec 32 := Scalar.extui v717
  let c0_i32_33 : BitVec 32 := 0#32
  let v719 : BitVec 1 := Scalar.cmpi .slt v715 c0_i32_33
  let v720 : BitVec 32 := Scalar.extui v719
  let v721 : BitVec 32 := Scalar.subi v718 v720
  let c4_i32 : BitVec 32 := 4#32
  let c0_i32_34 : BitVec 32 := 0#32
  let v722 : BitVec 1 := Scalar.cmpi .sgt c4_i32 c0_i32_34
  let v723 : BitVec 32 := Scalar.extui v722
  let c0_i32_35 : BitVec 32 := 0#32
  let v724 : BitVec 1 := Scalar.cmpi .slt c4_i32 c0_i32_35
  let v725 : BitVec 32 := Scalar.extui v724
  let v726 : BitVec 32 := Scalar.subi v723 v725
  let v727 : BitVec 1 := Scalar.cmpi .ne v721 v726
  let v728 : BitVec 32 := Scalar.remsi v715 c4_i32
  let c0_i32_36 : BitVec 32 := 0#32
  let v729 : BitVec 1 := Scalar.cmpi .ne v728 c0_i32_36
  let v730 : BitVec 1 := Scalar.andi v727 v729
  let v716 : BitVec 32 := Scalar.divsi v715 c4_i32
  let c1_i32_37 : BitVec 32 := 1#32
  let v731 : BitVec 32 := Scalar.subi v716 c1_i32_37
  let v732 : BitVec 32 := Scalar.select v730 v731 v716
  let v735 : BitVec 32 := Scalar.subi v732 c0_i32_42
  let c1_i32_43 : BitVec 32 := 1#32
  let v737 : BitVec 32 := Scalar.divsi v735 c1_i32_43
  let v738 : BitVec 32 := Scalar.muli v737 c1_i32_43
  let v739 : BitVec 32 := Scalar.addi c0_i32_42 v738
  let c1_i32_44 : BitVec 32 := 1#32
  ⟨c0_i32_42, v739, c1_i32_44⟩
def k0_cond7 (v42 : BitVec 32) (v694 : BitVec 32) : BitVec 1 :=
  let c0_i32_27 : BitVec 32 := 0#32
  let v702 : BitVec 1 := Scalar.cmpi .sgt v42 c0_i32_27
  let c0_i32_28 : BitVec 32 := 0#32
  let v703 : BitVec 1 := Scalar.cmpi .ne v694 c0_i32_28
  let v704 : BitVec 1 := Scalar.andi v702 v703
  let v705 : BitVec 32 := Scalar.extui v704
  let c0_i32_29 : BitVec 32 := 0#32
  let v706 : BitVec 1 := Scalar.cmpi .ne v705 c0_i32_29
  v706

@[reducible] def k0_t4_loop (v42 : BitVec 32) : Scf.Loop 32 :=
  let c0_i32_42 : BitVec 32 := 0#32
  let c3_i32 : BitVec 32 := 3#32
  let v715 : BitVec 32 := Scalar.addi v42 c3_i32
  let c0_i32_32 : BitVec 32 := 0#32
  let v717 : BitVec 1 := Scalar.cmpi .sgt v715 c0_i32_32
  let v718 : BitVec 32 := Scalar.extui v717
  let c0_i32_33 : BitVec 32 := 0#32
  let v719 : BitVec 1 := Scalar.cmpi .slt v715 c0_i32_33
  let v720 : BitVec 32 := Scalar.extui v719
  let v721 : BitVec 32 := Scalar.subi v718 v720
  let c4_i32 : BitVec 32 := 4#32
  let c0_i32_34 : BitVec 32 := 0#32
  let v722 : BitVec 1 := Scalar.cmpi .sgt c4_i32 c0_i32_34
  let v723 : BitVec 32 := Scalar.extui v722
  let c0_i32_35 : BitVec 32 := 0#32
  let v724 : BitVec 1 := Scalar.cmpi .slt c4_i32 c0_i32_35
  let v725 : BitVec 32 := Scalar.extui v724
  let v726 : BitVec 32 := Scalar.subi v723 v725
  let v727 : BitVec 1 := Scalar.cmpi .ne v721 v726
  let v728 : BitVec 32 := Scalar.remsi v715 c4_i32
  let c0_i32_36 : BitVec 32 := 0#32
  let v729 : BitVec 1 := Scalar.cmpi .ne v728 c0_i32_36
  let v730 : BitVec 1 := Scalar.andi v727 v729
  let v716 : BitVec 32 := Scalar.divsi v715 c4_i32
  let c1_i32_37 : BitVec 32 := 1#32
  let v731 : BitVec 32 := Scalar.subi v716 c1_i32_37
  let v732 : BitVec 32 := Scalar.select v730 v731 v716
  let v735 : BitVec 32 := Scalar.subi v732 c0_i32_42
  let c1_i32_43 : BitVec 32 := 1#32
  let v737 : BitVec 32 := Scalar.divsi v735 c1_i32_43
  let v738 : BitVec 32 := Scalar.muli v737 c1_i32_43
  let v739 : BitVec 32 := Scalar.addi c0_i32_42 v738
  let v736 : BitVec 32 := Scalar.addi c0_i32_42 v735
  let c1_i32_45 : BitVec 32 := 1#32
  ⟨v739, v736, c1_i32_45⟩

def k0_chk1 (i : grid0.Coords) (v42 : BitVec 32) (v694 : BitVec 32) : Prop :=
  (∀ (k0_h5 : k0_cond5 i = 1#1), ∀ (k0_h6 : k0_cond6 v42 v694 = 1#1), (k0_t1_loop v42).OK) ∧
  (∀ (k0_h5 : k0_cond5 i = 1#1), ∀ (k0_h6 : k0_cond6 v42 v694 = 1#1), (k0_t2_loop v42).OK) ∧
  (∀ (k0_h5 : k0_cond5 i = 1#1), ∀ (k0_h7 : k0_cond7 v42 v694 = 1#1), (k0_t3_loop v42).OK) ∧
  (∀ (k0_h5 : k0_cond5 i = 1#1), ∀ (k0_h7 : k0_cond7 v42 v694 = 1#1), (k0_t4_loop v42).OK)
theorem k0_t1_ok : ∀ (i : grid0.Coords) (v42 : BitVec 32) (v694 : BitVec 32) (k0_hw1 : k0_chk1 i v42 v694), ∀ (k0_h5 : k0_cond5 i = 1#1), ∀ (k0_h6 : k0_cond6 v42 v694 = 1#1), (k0_t1_loop v42).OK := fun i v42 v694 k0_hw1 k0_h5 k0_h6 => k0_hw1.1 k0_h5 k0_h6
theorem k0_t2_ok : ∀ (i : grid0.Coords) (v42 : BitVec 32) (v694 : BitVec 32) (k0_hw1 : k0_chk1 i v42 v694), ∀ (k0_h5 : k0_cond5 i = 1#1), ∀ (k0_h6 : k0_cond6 v42 v694 = 1#1), (k0_t2_loop v42).OK := fun i v42 v694 k0_hw1 k0_h5 k0_h6 => k0_hw1.2.1 k0_h5 k0_h6
theorem k0_t3_ok : ∀ (i : grid0.Coords) (v42 : BitVec 32) (v694 : BitVec 32) (k0_hw1 : k0_chk1 i v42 v694), ∀ (k0_h5 : k0_cond5 i = 1#1), ∀ (k0_h7 : k0_cond7 v42 v694 = 1#1), (k0_t3_loop v42).OK := fun i v42 v694 k0_hw1 k0_h5 k0_h7 => k0_hw1.2.2.1 k0_h5 k0_h7
theorem k0_t4_ok : ∀ (i : grid0.Coords) (v42 : BitVec 32) (v694 : BitVec 32) (k0_hw1 : k0_chk1 i v42 v694), ∀ (k0_h5 : k0_cond5 i = 1#1), ∀ (k0_h7 : k0_cond7 v42 v694 = 1#1), (k0_t4_loop v42).OK := fun i v42 v694 k0_hw1 k0_h5 k0_h7 => k0_hw1.2.2.2 k0_h5 k0_h7

def k0_cond8 (i : grid0.Coords) : BitVec 1 :=
  let arg1 : BitVec 32 := BitVec.ofNat 32 (i 1).val
  let c31_i32 : BitVec 32 := 31#32
  let v29 : BitVec 1 := Scalar.cmpi .eq arg1 c31_i32
  let v30 : BitVec 32 := Scalar.extui v29
  let c0_i32_11 : BitVec 32 := 0#32
  let v31 : BitVec 1 := Scalar.cmpi .ne v30 c0_i32_11
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg1 c16_i32
  let c16_i32_0 : BitVec 32 := 16#32
  let v1 : BitVec 32 := Scalar.subi arg1 c16_i32_0
  let v2 : BitVec 32 := Scalar.select v0 arg1 v1
  let c0_i32 : BitVec 32 := 0#32
  let c0_i32_1 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S6272x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x32 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceIdeal.lean ====
abbrev S1024x32 : Shape := ⟨2, ![1024, 32]⟩
abbrev S100000x32 : Shape := ⟨2, ![100000, 32]⟩
abbrev S32x100000 : Shape := ⟨2, ![32, 100000]⟩
abbrev S1024x100000 : Shape := ⟨2, ![1024, 100000]⟩

abbrev nBuf : Space → Nat
  | .hbm => 6
  | .vmem => 0
  | .smem => 0
  | _ => 0

abbrev bufTy : (tb : Table) → Fin (tcTables nBuf tb) → BufTy
  | .hbm, ⟨0, _⟩ => ⟨S1024x32, .f32⟩
  | .hbm, ⟨1, _⟩ => ⟨S100000x32, .f32⟩
  | .hbm, ⟨2, _⟩ => ⟨S32x100000, .f32⟩
  | .hbm, ⟨3, _⟩ => ⟨S1024x100000, .f32⟩
  | .hbm, ⟨4, _⟩ => ⟨S1024x32, .f32⟩
  | .hbm, ⟨5, _⟩ => ⟨S1024x32, .i32⟩
  | _, _ => ⟨S1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_values : Ref sig .tc := ⟨.hbm, 4, rfl⟩
abbrev main_indices : Ref sig .tc := ⟨.hbm, 5, rfl⟩

abbrev nD : Nat := 1
abbrev τ : Topo := Topo.v7x

variable {F : FTy → Type} [FloatOps F]
-- ==== Proof.KFrame.lean ====
/-
  The kernel's frame: the body run once on symbolic buffers, whatever they hold, and the launch over it.
-/
module

public import proofs.«01_k».proof.Proof.Gen.Kernel.Frame
public import proofs.«01_k».proof.Proof.Gen.Kernel.Skeleton
public import proofs.«01_k».proof.Proof.Gen.Kernel.Loops
public import Idealize.ShloMosaic.Lib.Tactic
public import Idealize.ShloMosaic.Lib.LoopRemainder
public import Idealize.ShloMosaic.PureOps.BitExact

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

/-- The proof's resource algebra: the frame kit's. -/
local notation "𝕄" => MT nD τ sig Unit (Elt F) ℕ (UR sig nD τ) ℕ

abbrev 𝒱₀ : Variants := Variants.none

/-- A word loop from zero with unit step never wraps, and neither does a loop from a word to itself. -/
theorem ok_zero (ub : BitVec 32) : Scf.OK 0#32 ub 1#32 := by
  have h : Scf.trips 0#32 ub 1#32 = ub.toInt.toNat := by simp [Scf.trips]
  refine ⟨by decide, ?_⟩
  rw [h]
  have := BitVec.toInt_lt (x := ub)
  simp at *
  omega

theorem ok_self (a : BitVec 32) : Scf.OK a a 1#32 := by
  have h : Scf.trips a a 1#32 = 0 := by simp [Scf.trips]
  refine ⟨by decide, ?_⟩
  rw [h]
  have := BitVec.toInt_lt (x := a)
  simp at *
  omega

theorem chk_all (i : grid0.Coords) (v42 v694 : BitVec 32) : k0_chk1 i v42 v694 := by
  refine ⟨fun _ _ => ok_zero _, fun _ _ => ?_, fun _ _ => ok_zero _, fun _ _ => ?_⟩
  · show Scf.OK (Scalar.addi 0#32 (Scalar.muli (Scalar.divsi _ 1#32) 1#32)) (Scalar.addi 0#32 _) 1#32
    rw [Scalar.muli_divsi_one]; exact ok_self _
  · show Scf.OK (Scalar.addi 0#32 (Scalar.muli (Scalar.divsi _ 1#32) 1#32)) (Scalar.addi 0#32 _) 1#32
    rw [Scalar.muli_divsi_one]; exact ok_self _

/-- What an extraction loop carries. -/
abbrev Carried : Type := Vec F S256x32 .f32 × Vec F S256x32 .i32 × FVec F S256x1 .f32 × IVec S256x1 32

section Loops
variable (i : grid0.Coords) (arg2 : Memref sig .tc .vmem S256x32 .f32) (harg2 : arg2.IsWhole) (arg3 : Memref sig .tc .vmem S6272x32 .f32) (harg3 : arg3.IsWhole)
  (arg4 : Memref sig .tc .vmem S256x32 .i32) (harg4 : arg4.IsWhole) (arg5 : Memref sig .tc .vmem S256x128 .f32) (harg5 : arg5.IsWhole) (arg6 : Memref sig .tc .vmem S256x1 .f32) (harg6 : arg6.IsWhole)
  (arg7 : Memref sig .tc .vmem S256x32 .f32) (harg7 : arg7.IsWhole) (arg8 : Memref sig .tc .vmem S256x32 .i32) (harg8 : arg8.IsWhole)
  (v10 : IVec S256x6272 32) (hc5 : k0_cond5 i = 1#1) (v36 : FVec F S256x6272 .f32) (v42 : BitVec 32) (v43 : IVec S256x32 32) (v694 : BitVec 32) (hw : k0_chk1 i v42 v694)
  (v695 : FVec F S256x256 .f32) (v696 : IVec S256x256 32) (hc6 : k0_cond6 v42 v694 = 1#1) (hc7 : k0_cond7 v42 v694 = 1#1) (v739 : BitVec 32)

/-- A trip of either extraction loop has no effect: it is the return of some function of what it carries. -/
theorem t1_pure : ∃ g : Fin (k0_t1_loop v42).trips → Carried (F := F) → Carried (F := F), k0_t1_body (F := F) i arg2 harg2 arg3 harg3 arg4 harg4 arg5 harg5 arg6 harg6 arg7 harg7 arg8 harg8 hc5 v42 v43 v694 hw v695 v696 hc6 = fun k acc => Prog.ret (g k acc) :=
  ⟨fun k acc => _, funext fun k => funext fun acc => rfl⟩
theorem t2_pure : ∃ g : Fin (k0_t2_loop v42).trips → Carried (F := F) → Carried (F := F), k0_t2_body (F := F) i arg2 harg2 arg3 harg3 arg4 harg4 arg5 harg5 arg6 harg6 arg7 harg7 arg8 harg8 hc5 v42 v43 v694 hw v695 v696 hc6 v739 = fun k acc => Prog.ret (g k acc) :=
  ⟨fun k acc => _, funext fun k => funext fun acc => rfl⟩
theorem t3_pure : ∃ g : Fin (k0_t3_loop v42).trips → Carried (F := F) → Carried (F := F), k0_t3_body (F := F) i arg2 harg2 arg3 harg3 arg4 harg4 arg5 harg5 arg6 harg6 arg7 harg7 arg8 harg8 v10 hc5 v36 v42 v43 v694 hw hc7 = fun k acc => Prog.ret (g k acc) :=
  ⟨fun k acc => _, funext fun k => funext fun acc => rfl⟩
theorem t4_pure : ∃ g : Fin (k0_t4_loop v42).trips → Carried (F := F) → Carried (F := F), k0_t4_body (F := F) i arg2 harg2 arg3 harg3 arg4 harg4 arg5 harg5 arg6 harg6 arg7 harg7 arg8 harg8 v10 hc5 v36 v42 v43 v694 hw hc7 v739 = fun k acc => Prog.ret (g k acc) :=
  ⟨fun k acc => _, funext fun k => funext fun acc => rfl⟩
end Loops

/-- Loop 1 of the extraction keeps nothing: it touches no buffer. -/
@[sl_loop] noncomputable def loopInv_k0_t1 (c : Dev nD) (i : grid0.Coords) (arg2 : Memref sig .tc .vmem S256x32 .f32) (harg2 : arg2.IsWhole) (arg3 : Memref sig .tc .vmem S6272x32 .f32) (harg3 : arg3.IsWhole) (arg4 : Memref sig .tc .vmem S256x32 .i32) (harg4 : arg4.IsWhole) (arg5 : Memref sig .tc .vmem S256x128 .f32) (harg5 : arg5.IsWhole) (arg6 : Memref sig .tc .vmem S256x1 .f32) (harg6 : arg6.IsWhole) (arg7 : Memref sig .tc .vmem S256x32 .f32) (harg7 : arg7.IsWhole) (arg8 : Memref sig .tc .vmem S256x32 .i32) (harg8 : arg8.IsWhole) (k0_h5 : k0_cond5 i = 1#1) (v42 : BitVec 32) (v43 : IVec S256x32 32) (v694 : BitVec 32) (k0_hw1 : k0_chk1 i v42 v694) (v695 : FVec F S256x256 .f32) (v696 : IVec S256x256 32) (k0_h6 : k0_cond6 v42 v694 = 1#1) (init : Vec F S256x32 .f32 × Vec F S256x32 .i32 × FVec F S256x1 .f32 × IVec S256x1 32) :
    Cert.Kernel.Gen.LoopInvTy_k0_t1 (F := F) Unit ℕ (UR sig nD τ) ℕ 𝒱₀ c none Set.univ i arg2 harg2 arg3 harg3 arg4 harg4 arg5 harg5 arg6 harg6 arg7 harg7 arg8 harg8 k0_h5 v42 v43 v694 k0_hw1 v695 v696 k0_h6 init where
  inv := fun _ _ => iprop(⌜True⌝)
  step := fun k acc => by
    rw [(t1_pure ..).choose_spec]
    iintro _
    sl_step
    ipureintro; trivial

/-- Loop 2 of the extraction keeps nothing: it touches no buffer. -/
@[sl_loop] noncomputable def loopInv_k0_t2 (c : Dev nD) (i : grid0.Coords) (arg2 : Memref sig .tc .vmem S256x32 .f32) (harg2 : arg2.IsWhole) (arg3 : Memref sig .tc .vmem S6272x32 .f32) (harg3 : arg3.IsWhole) (arg4 : Memref sig .tc .vmem S256x32 .i32) (harg4 : arg4.IsWhole) (arg5 : Memref sig .tc .vmem S256x128 .f32) (harg5 : arg5.IsWhole) (arg6 : Memref sig .tc .vmem S256x1 .f32) (harg6 : arg6.IsWhole) (arg7 : Memref sig .tc .vmem S256x32 .f32) (harg7 : arg7.IsWhole) (arg8 : Memref sig .tc .vmem S256x32 .i32) (harg8 : arg8.IsWhole) (k0_h5 : k0_cond5 i = 1#1) (v42 : BitVec 32) (v43 : IVec S256x32 32) (v694 : BitVec 32) (k0_hw1 : k0_chk1 i v42 v694) (v695 : FVec F S256x256 .f32) (v696 : IVec S256x256 32) (k0_h6 : k0_cond6 v42 v694 = 1#1) (v739 : BitVec 32) (init : Vec F S256x32 .f32 × Vec F S256x32 .i32 × FVec F S256x1 .f32 × IVec S256x1 32) :
    Cert.Kernel.Gen.LoopInvTy_k0_t2 (F := F) Unit ℕ (UR sig nD τ) ℕ 𝒱₀ c none Set.univ i arg2 harg2 arg3 harg3 arg4 harg4 arg5 harg5 arg6 harg6 arg7 harg7 arg8 harg8 k0_h5 v42 v43 v694 k0_hw1 v695 v696 k0_h6 v739 init where
  inv := fun _ _ => iprop(⌜True⌝)
  step := fun k acc => by
    rw [(t2_pure ..).choose_spec]
    iintro _
    sl_step
    ipureintro; trivial

/-- Loop 3 of the extraction keeps nothing: it touches no buffer. -/
@[sl_loop] noncomputable def loopInv_k0_t3 (c : Dev nD) (i : grid0.Coords) (arg2 : Memref sig .tc .vmem S256x32 .f32) (harg2 : arg2.IsWhole) (arg3 : Memref sig .tc .vmem S6272x32 .f32) (harg3 : arg3.IsWhole) (arg4 : Memref sig .tc .vmem S256x32 .i32) (harg4 : arg4.IsWhole) (arg5 : Memref sig .tc .vmem S256x128 .f32) (harg5 : arg5.IsWhole) (arg6 : Memref sig .tc .vmem S256x1 .f32) (harg6 : arg6.IsWhole) (arg7 : Memref sig .tc .vmem S256x32 .f32) (harg7 : arg7.IsWhole) (arg8 : Memref sig .tc .vmem S256x32 .i32) (harg8 : arg8.IsWhole) (v10 : IVec S256x6272 32) (k0_h5 : k0_cond5 i = 1#1) (v36 : FVec F S256x6272 .f32) (v42 : BitVec 32) (v43 : IVec S256x32 32) (v694 : BitVec 32) (k0_hw1 : k0_chk1 i v42 v694) (k0_h7 : k0_cond7 v42 v694 = 1#1) (init : Vec F S256x32 .f32 × Vec F S256x32 .i32 × FVec F S256x1 .f32 × IVec S256x1 32) :
    Cert.Kernel.Gen.LoopInvTy_k0_t3 (F := F) Unit ℕ (UR sig nD τ) ℕ 𝒱₀ c none Set.univ i arg2 harg2 arg3 harg3 arg4 harg4 arg5 harg5 arg6 harg6 arg7 harg7 arg8 harg8 v10 k0_h5 v36 v42 v43 v694 k0_hw1 k0_h7 init where
  inv := fun _ _ => iprop(⌜True⌝)
  step := fun k acc => by
    rw [(t3_pure ..).choose_spec]
    iintro _
    sl_step
    ipureintro; trivial

/-- Loop 4 of the extraction keeps nothing: it touches no buffer. -/
@[sl_loop] noncomputable def loopInv_k0_t4 (c : Dev nD) (i : grid0.Coords) (arg2 : Memref sig .tc .vmem S256x32 .f32) (harg2 : arg2.IsWhole) (arg3 : Memref sig .tc .vmem S6272x32 .f32) (harg3 : arg3.IsWhole) (arg4 : Memref sig .tc .vmem S256x32 .i32) (harg4 : arg4.IsWhole) (arg5 : Memref sig .tc .vmem S256x128 .f32) (harg5 : arg5.IsWhole) (arg6 : Memref sig .tc .vmem S256x1 .f32) (harg6 : arg6.IsWhole) (arg7 : Memref sig .tc .vmem S256x32 .f32) (harg7 : arg7.IsWhole) (arg8 : Memref sig .tc .vmem S256x32 .i32) (harg8 : arg8.IsWhole) (v10 : IVec S256x6272 32) (k0_h5 : k0_cond5 i = 1#1) (v36 : FVec F S256x6272 .f32) (v42 : BitVec 32) (v43 : IVec S256x32 32) (v694 : BitVec 32) (k0_hw1 : k0_chk1 i v42 v694) (k0_h7 : k0_cond7 v42 v694 = 1#1) (v739 : BitVec 32) (init : Vec F S256x32 .f32 × Vec F S256x32 .i32 × FVec F S256x1 .f32 × IVec S256x1 32) :
    Cert.Kernel.Gen.LoopInvTy_k0_t4 (F := F) Unit ℕ (UR sig nD τ) ℕ 𝒱₀ c none Set.univ i arg2 harg2 arg3 harg3 arg4 harg4 arg5 harg5 arg6 harg6 arg7 harg7 arg8 harg8 v10 k0_h5 v36 v42 v43 v694 k0_hw1 k0_h7 v739 init where
  inv := fun _ _ => iprop(⌜True⌝)
  step := fun k acc => by
    rw [(t4_pure ..).choose_spec]
    iintro _
    sl_step
    ipureintro; trivial

abbrev ej (j : Fin 32) (p : CmpIPredicate) (k : BitVec 32) : BitVec 1 := Scalar.cmpi .ne (Scalar.extui (Scalar.cmpi p (BitVec.ofNat 32 j.val) k) : BitVec 32) 0#32
theorem c1_iff : ∀ j : Fin 32, ej j .eq 0#32 = 1#1 ↔ j.val = 0 := by decide
theorem c2_iff : ∀ j : Fin 32, ej j .slt 16#32 = 1#1 ↔ j.val < 16 := by decide
theorem c3_iff : ∀ j : Fin 32, ej j .eq 15#32 = 1#1 ↔ j.val = 15 := by decide
theorem c4_iff : ∀ j : Fin 32, ej j .eq 16#32 = 1#1 ↔ j.val = 16 := by decide
theorem c5_iff : ∀ j : Fin 32, Scalar.cmpi .ne (Scalar.extui (Scalar.xori (Scalar.cmpi .slt (BitVec.ofNat 32 j.val) 16#32) 1#1) : BitVec 32) 0#32 = 1#1 ↔ 16 ≤ j.val := by decide
theorem c8_iff : ∀ j : Fin 32, ej j .eq 31#32 = 1#1 ↔ j.val = 31 := by decide

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

abbrev pw (c : Dev nD) {sp : Space} {S : Shape} {e : EltTy} (M : Memref sig .tc sp S e) (f : Bf (F := F) c M) : sProp 𝕄 :=
  M.view.loc (c : Thread nD τ) ↦[M.view.set]{fullShare} f

section Parts
variable {c : Dev nD} {i : grid0.Coords} {M2 : Memref sig .tc .vmem S256x32 .f32} {h2 : M2.IsWhole} {M3 : Memref sig .tc .vmem S6272x32 .f32} {h3 : M3.IsWhole}
    {M4 : Memref sig .tc .vmem S256x32 .i32} {h4 : M4.IsWhole} {M5 : Memref sig .tc .vmem S256x128 .f32} {h5 : M5.IsWhole} {M6 : Memref sig .tc .vmem S256x1 .f32} {h6 : M6.IsWhole}
    {M7 : Memref sig .tc .vmem S256x32 .f32} {h7 : M7.IsWhole} {M8 : Memref sig .tc .vmem S256x32 .i32} {h8 : M8.IsWhole}
  {v10 : IVec S256x6272 32} {hc5 : k0_cond5 i = 1#1} {v36 : FVec F S256x6272 .f32} {v42 : BitVec 32} {v43 : IVec S256x32 32} {v694 : BitVec 32} {hw : k0_chk1 i v42 v694}
  {v695 : FVec F S256x256 .f32} {v696 : IVec S256x256 32} {hc6 : k0_cond6 v42 v694 = 1#1} {hc7 : k0_cond7 v42 v694 = 1#1} {v739 : BitVec 32}

/-- Extraction part 14 stores the two carried buffers and touches nothing else. -/
theorem part14_run {K : Vec F S256x32 .i32 → sProp 𝕄} : iprop((∃ f, pt (F := F) c M7 f) ∗ (∃ f, pt c M8 f) ∗ (∀ v f g, iprop(pt c M7 f ∗ pt c M8 g) -∗ K v))
    ⊢ wp frame (wpE (defs₀ (F := F)) 𝒱₀ c none) Set.univ (k0_part14 i M2 h2 M3 h3 M4 h4 M5 h5 M6 h6 M7 h7 M8 h8 hc5 v42 v43 v694 hw v695 v696 hc6) K := by
  iintro ⟨⟨%f7, H7⟩, ⟨%f8, H8⟩, Hk⟩
  sl_unfold [k0_part14]
  sl_exec!
  sl_step
  iapply Hk
  iframe

/-- Extraction part 23 stores the two carried buffers and touches nothing else. -/
theorem part23_run {K : Vec F S256x32 .i32 → sProp 𝕄} : iprop((∃ f, pt (F := F) c M7 f) ∗ (∃ f, pt c M8 f) ∗ (∀ v f g, iprop(pt c M7 f ∗ pt c M8 g) -∗ K v))
    ⊢ wp frame (wpE (defs₀ (F := F)) 𝒱₀ c none) Set.univ (k0_part23 i M2 h2 M3 h3 M4 h4 M5 h5 M6 h6 M7 h7 M8 h8 v10 hc5 v36 v42 v43 v694 hw hc7) K := by
  iintro ⟨⟨%f7, H7⟩, ⟨%f8, H8⟩, Hk⟩
  sl_unfold [k0_part23]
  sl_exec!
  sl_step
  iapply Hk
  iframe

end Parts

/-- The extraction conditions in words: candidates remain, and the lane test did or did not overflow. -/
theorem c6_iff (a b : BitVec 32) : k0_cond6 a b = 1#1 ↔ Scalar.cmpi .sgt a 0#32 = 1#1 ∧ b = 0#32 := by
  have h : ∀ p q : BitVec 1, Scalar.cmpi .ne (Scalar.extui (Scalar.andi p q) : BitVec 32) 0#32 = 1#1 ↔ p = 1#1 ∧ q = 1#1 := by decide
  refine (h _ _).trans (and_congr Iff.rfl ?_)
  by_cases hb : b = 0#32 <;> simp [Scalar.cmpi, IntOp.cmpi, hb, bne, beq_eq_false_iff_ne.2]
theorem c7_iff (a b : BitVec 32) : k0_cond7 a b = 1#1 ↔ Scalar.cmpi .sgt a 0#32 = 1#1 ∧ b ≠ 0#32 := by
  have h : ∀ p q : BitVec 1, Scalar.cmpi .ne (Scalar.extui (Scalar.andi p q) : BitVec 32) 0#32 = 1#1 ↔ p = 1#1 ∧ q = 1#1 := by decide
  refine (h _ _).trans (and_congr Iff.rfl ?_)
  by_cases hb : b = 0#32 <;> simp [Scalar.cmpi, IntOp.cmpi, hb, bne, beq_eq_false_iff_ne.2]

theorem excl {a b : BitVec 32} (h : k0_cond6 a b = 1#1) : ¬ k0_cond7 a b = 1#1 :=
  fun h' => ((c7_iff a b).1 h').2 ((c6_iff a b).1 h).2

set_option maxRecDepth 16384 in
theorem bodyRun (c : Dev nD) (i : grid0.Coords) (M2 : Memref sig .tc .vmem S256x32 .f32) (h2 : M2.IsWhole) (M3 : Memref sig .tc .vmem S6272x32 .f32) (h3 : M3.IsWhole)
    (M4 : Memref sig .tc .vmem S256x32 .i32) (h4 : M4.IsWhole) (M5 : Memref sig .tc .vmem S256x128 .f32) (h5 : M5.IsWhole) (M6 : Memref sig .tc .vmem S256x1 .f32) (h6 : M6.IsWhole)
    (M7 : Memref sig .tc .vmem S256x32 .f32) (h7 : M7.IsWhole) (M8 : Memref sig .tc .vmem S256x32 .i32) (h8 : M8.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8)
    (K : PUnit → sProp 𝕄) :
    iprop(pw c M2 f2 ∗ pw c M3 f3 ∗ pw c M4 f4 ∗ pt c M5 f5 ∗ pt c M6 f6 ∗ pt c M7 f7 ∗ pt c M8 f8
      ∗ (iprop(pw c M2 f2 ∗ pw c M3 f3 ∗ (∃ f, pw c M4 f) ∗ (∃ f, pt c M5 f) ∗ (∃ f, pt c M6 f) ∗ (∃ f, pt c M7 f) ∗ (∃ f, pt c M8 f)) -∗ K ⟨⟩))
    ⊢ wp frame (wpE (defs₀ (F := F)) 𝒱₀ c none) Set.univ (cc0__body i M2 h2 M3 h3 M4 h4 M5 h5 M6 h6 M7 h7 M8 h8) K := by
  iintro ⟨H2, H3, H4, H5, H6, H7, H8, Hk⟩
  sl_unfold [cc0__body]
  have e1 := c1_iff (i 1); have e2 := c2_iff (i 1); have e3 := c3_iff (i 1); have e4 := c4_iff (i 1); have e5 := c5_iff (i 1); have e8 := c8_iff (i 1)
  by_cases a5 : 16 ≤ (i 1).val
  · have n1 := e1.not.2 (by omega); have n2 := e2.not.2 (by omega); have n3 := e3.not.2 (by omega); have p5 : k0_cond5 i = 1#1 := e5.2 a5
    by_cases a4 : (i 1).val = 16
    · have p4 := e4.2 a4; have n8 : ¬ k0_cond8 i = 1#1 := e8.not.2 (by omega)
      clear e1 e2 e3 e4 e5 e8
      sl_exec (disch := exact chk_all _ _ _)
      split
      · rename_i h6
        have h7 := excl h6
        apply exec_bind
        refine BIBase.Entails.trans ?_ part14_run
        iintro ⟨⟨⟨⟨⟨⟨⟨H2, H3⟩, H4⟩, H5⟩, H6⟩, H7⟩, H8⟩, Hk⟩
        isplitl [H7]; · iexists _; iexact H7
        isplitl [H8]; · iexists _; iexact H8
        iintro %v %f %g ⟨H7, H8⟩
        sl_exec!
        sl_step
        iapply Hk
        isplitl [H2]; · iexact H2
        isplitl [H3]; · iexact H3
        isplitl [H4]; · iexists _; iexact H4
        isplitl [H5]; · iexists _; iexact H5
        isplitl [H6]; · iexists _; iexact H6
        isplitl [H7]; · iexists _; iexact H7
        iexists _; iexact H8
      · sl_exec
        split
        · apply exec_bind
          refine BIBase.Entails.trans ?_ part23_run
          iintro ⟨⟨⟨⟨⟨⟨⟨H2, H3⟩, H4⟩, H5⟩, H6⟩, H7⟩, H8⟩, Hk⟩
          isplitl [H7]; · iexists _; iexact H7
          isplitl [H8]; · iexists _; iexact H8
          iintro %v %f %g ⟨H7, H8⟩
          sl_exec!
          sl_step
          iapply Hk
          isplitl [H2]; · iexact H2
          isplitl [H3]; · iexact H3
          isplitl [H4]; · iexists _; iexact H4
          isplitl [H5]; · iexists _; iexact H5
          isplitl [H6]; · iexists _; iexact H6
          isplitl [H7]; · iexists _; iexact H7
          iexists _; iexact H8
        · sl_exec!
          sl_step
          iapply Hk
          isplitl [H2]; · iexact H2
          isplitl [H3]; · iexact H3
          isplitl [H4]; · iexists _; iexact H4
          isplitl [H5]; · iexists _; iexact H5
          isplitl [H6]; · iexists _; iexact H6
          isplitl [H7]; · iexists _; iexact H7
          iexists _; iexact H8
    have n4 := e4.not.2 a4
    by_cases a8 : (i 1).val = 31
    · have p8 : k0_cond8 i = 1#1 := e8.2 a8
      clear e1 e2 e3 e4 e5 e8
      sl_exec (disch := exact chk_all _ _ _)
      split
      · rename_i h6
        have h7 := excl h6
        apply exec_bind
        refine BIBase.Entails.trans ?_ part14_run
        iintro ⟨⟨⟨⟨⟨⟨⟨H2, H3⟩, H4⟩, H5⟩, H6⟩, H7⟩, H8⟩, Hk⟩
        isplitl [H7]; · iexists _; iexact H7
        isplitl [H8]; · iexists _; iexact H8
        iintro %v %f %g ⟨H7, H8⟩
        sl_exec!
        sl_step
        iapply Hk
        isplitl [H2]; · iexact H2
        isplitl [H3]; · iexact H3
        isplitl [H4]; · iexists _; iexact H4
        isplitl [H5]; · iexists _; iexact H5
        isplitl [H6]; · iexists _; iexact H6
        isplitl [H7]; · iexists _; iexact H7
        iexists _; iexact H8
      · sl_exec
        split
        · apply exec_bind
          refine BIBase.Entails.trans ?_ part23_run
          iintro ⟨⟨⟨⟨⟨⟨⟨H2, H3⟩, H4⟩, H5⟩, H6⟩, H7⟩, H8⟩, Hk⟩
          isplitl [H7]; · iexists _; iexact H7
          isplitl [H8]; · iexists _; iexact H8
          iintro %v %f %g ⟨H7, H8⟩
          sl_exec!
          sl_step
          iapply Hk
          isplitl [H2]; · iexact H2
          isplitl [H3]; · iexact H3
          isplitl [H4]; · iexists _; iexact H4
          isplitl [H5]; · iexists _; iexact H5
          isplitl [H6]; · iexists _; iexact H6
          isplitl [H7]; · iexists _; iexact H7
          iexists _; iexact H8
        · sl_exec!
          sl_step
          iapply Hk
          isplitl [H2]; · iexact H2
          isplitl [H3]; · iexact H3
          isplitl [H4]; · iexists _; iexact H4
          isplitl [H5]; · iexists _; iexact H5
          isplitl [H6]; · iexists _; iexact H6
          isplitl [H7]; · iexists _; iexact H7
          iexists _; iexact H8
    · have n8 : ¬ k0_cond8 i = 1#1 := e8.not.2 a8
      clear e1 e2 e3 e4 e5 e8
      sl_exec (disch := exact chk_all _ _ _)
      split
      · rename_i h6
        have h7 := excl h6
        apply exec_bind
        refine BIBase.Entails.trans ?_ part14_run
        iintro ⟨⟨⟨⟨⟨⟨⟨H2, H3⟩, H4⟩, H5⟩, H6⟩, H7⟩, H8⟩, Hk⟩
        isplitl [H7]; · iexists _; iexact H7
        isplitl [H8]; · iexists _; iexact H8
        iintro %v %f %g ⟨H7, H8⟩
        sl_exec!
        sl_step
        iapply Hk
        isplitl [H2]; · iexact H2
        isplitl [H3]; · iexact H3
        isplitl [H4]; · iexists _; iexact H4
        isplitl [H5]; · iexists _; iexact H5
        isplitl [H6]; · iexists _; iexact H6
        isplitl [H7]; · iexists _; iexact H7
        iexists _; iexact H8
      · sl_exec
        split
        · apply exec_bind
          refine BIBase.Entails.trans ?_ part23_run
          iintro ⟨⟨⟨⟨⟨⟨⟨H2, H3⟩, H4⟩, H5⟩, H6⟩, H7⟩, H8⟩, Hk⟩
          isplitl [H7]; · iexists _; iexact H7
          isplitl [H8]; · iexists _; iexact H8
          iintro %v %f %g ⟨H7, H8⟩
          sl_exec!
          sl_step
          iapply Hk
          isplitl [H2]; · iexact H2
          isplitl [H3]; · iexact H3
          isplitl [H4]; · iexists _; iexact H4
          isplitl [H5]; · iexists _; iexact H5
          isplitl [H6]; · iexists _; iexact H6
          isplitl [H7]; · iexists _; iexact H7
          iexists _; iexact H8
        · sl_exec!
          sl_step
          iapply Hk
          isplitl [H2]; · iexact H2
          isplitl [H3]; · iexact H3
          isplitl [H4]; · iexists _; iexact H4
          isplitl [H5]; · iexists _; iexact H5
          isplitl [H6]; · iexists _; iexact H6
          isplitl [H7]; · iexists _; iexact H7
          iexists _; iexact H8
  · have p2 := e2.2 (by omega); have n4 := e4.not.2 (by omega); have n5 : ¬ k0_cond5 i = 1#1 := e5.not.2 a5; have n8 : ¬ k0_cond8 i = 1#1 := e8.not.2 (by omega)
    by_cases a1 : (i 1).val = 0
    · have p1 := e1.2 a1; have n3 := e3.not.2 (by omega)
      clear e1 e2 e3 e4 e5 e8
      sl_exec!
      sl_step
      iapply Hk
      isplitl [H2]; · iexact H2
      isplitl [H3]; · iexact H3
      isplitl [H4]; · iexists _; iexact H4
      isplitl [H5]; · iexists _; iexact H5
      isplitl [H6]; · iexists _; iexact H6
      isplitl [H7]; · iexists _; iexact H7
      iexists _; iexact H8
    have n1 := e1.not.2 a1
    by_cases a3 : (i 1).val = 15
    · have p3 := e3.2 a3
      clear e1 e2 e3 e4 e5 e8
      sl_exec!
      sl_step
      iapply Hk
      isplitl [H2]; · iexact H2
      isplitl [H3]; · iexact H3
      isplitl [H4]; · iexists _; iexact H4
      isplitl [H5]; · iexists _; iexact H5
      isplitl [H6]; · iexists _; iexact H6
      isplitl [H7]; · iexists _; iexact H7
      iexists _; iexact H8
    · have n3 := e3.not.2 a3
      clear e1 e2 e3 e4 e5 e8
      sl_exec!
      sl_step
      iapply Hk
      isplitl [H2]; · iexact H2
      isplitl [H3]; · iexact H3
      isplitl [H4]; · iexists _; iexact H4
      isplitl [H5]; · iexists _; iexact H5
      isplitl [H6]; · iexists _; iexact H6
      isplitl [H7]; · iexists _; iexact H7
      iexists _; iexact H8

/-! ## The launch -/

variable (m : (ℓ : Loc nD τ sig) → Buf (Elt F) ℓ) (ρ : Dev nD → PrngReg)

/-- The result's window is taken back at whatever the body leaves. -/
def fgt (w : Fin cfg0.W) : Bool := match w with
  | ⟨0, _⟩ => false
  | ⟨1, _⟩ => false
  | ⟨2, _⟩ => true

/-- The proof data: the inputs at their blocks, the scratch buffers at whatever they hold. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

theorem body_obligation (c : Dev nD) : BodyObligation (dats (F := F) m 0 c) (defs₀ (F := F)) 𝒱₀ () Set.univ fgt := fun t => by
  rw [bigSep_W0, bigSep_W0]
  sl_whnfR [defs₀, Defs.onTc]
  simp only [before0_0, before0_1, fgt]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1]
  unfold Pipeline.ΦA
  rw [scopedRest0_eq]
  unfold owns
  iintro ⟨⟨⟨⟨%f5, H5⟩, ⟨%f6, H6⟩, ⟨%f7, H7⟩, ⟨%f8, H8⟩⟩, Hp⟩, Ho, ⟨%d2, %f2, %hf2, H2⟩, ⟨%d3, %f3, %hf3, H3⟩, ⟨%d4, %f4, %hf4, H4⟩⟩
  iapply (bodyRun c (grid0.coords t) (stage0_0 (cfg0.slots t 0)) _ (stage0_1 (cfg0.slots t 1)) _ (stage0_2 (cfg0.slots t 2)) _
    (Memref.whole cc0_scratch0) _ (Memref.whole cc0_scratch1) _ (Memref.whole cc0_scratch2) _ (Memref.whole cc0_scratch3) _ f2 f3 f4 f5 f6 f7 f8 _)
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H2, H3, ⟨%g4, H4⟩, ⟨%g5, H5⟩, ⟨%g6, H6⟩, ⟨%g7, H7⟩, ⟨%g8, H8⟩⟩
  isplitl [H5 H6 H7 H8 Hp]
  · isplitl [H5 H6 H7 H8]
    · isplitl [H5]; · iexists _; iexact H5
      isplitl [H6]; · iexists _; iexact H6
      isplitl [H7]; · iexists _; iexact H7
      iexists _; iexact H8
    iexact Hp
  isplitl [Ho]; · iexact Ho
  isplitl [H2]
  · iexists f2; isplitr; · ipureintro; exact hf2
    iexact H2
  isplitl [H3]
  · iexists f3; isplitr; · ipureintro; exact hf3
    iexact H3
  iexists _; iexists g4; isplitr; · ipureintro; rfl
  iexact H4

set_option backward.isDefEq.respectTransparency.types false in
/-- Every run of the program ends, with its arrays as the launch library says and every counter at zero. -/
theorem run_main : θ_run defs (onTc (τ := τ) (main (F := F))) (s₀ m ρ)
    (fun r => Pipeline.RDat.FramePost (cfgs 0) (fun c => (dats m 0 c).toRForget fgt) (V m) r ∧ r.2.sem = fun _ => 0) :=
  Pipeline.θ_run_frame_forget (Q' := _) cfgs (dats m) (0 : Fin 1) launch0 defs₀ 𝒱₀ fgt m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The arguments are as they were, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨(((dats m 0 c).toRForget_arrAt_iff rfl _ _).1 ((h.1 c).1 0)).trans (((dats m 0 c).arrAt_in 0 rfl _).trans (V_main_arg0 m c)),
      ((h.1 c).2 main_arg1 (Pipeline.mem_restRefs_of main_arg1 (by decide) (by decide))).trans (V_main_arg1 m c)⟩, h.2⟩) (run_main m ρ)

end Cert.Proof.Kernel
end
-- ==== Proof.IBase.lean ====
/-
  What both runs of the idealized kernel's body share: its conditions in words, and its buffers.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic
public import Idealize.ShloMosaic.Lib.LoopRemainder
public import Idealize.ShloMosaic.PureOps.BitExact

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

/-- The proof's resource algebra: the frame kit's. -/
local notation "𝕄" => MT nD τ sig Unit (Elt F) ℕ (UR sig nD τ) ℕ

abbrev 𝒱₀ : Variants := Variants.none

/-- A word loop from zero with unit step never wraps, and neither does a loop from a word to itself. -/
theorem ok_zero (ub : BitVec 32) : Scf.OK 0#32 ub 1#32 := by
  have h : Scf.trips 0#32 ub 1#32 = ub.toInt.toNat := by simp [Scf.trips]
  refine ⟨by decide, ?_⟩
  rw [h]
  have := BitVec.toInt_lt (x := ub)
  simp at *
  omega

theorem ok_self (a : BitVec 32) : Scf.OK a a 1#32 := by
  have h : Scf.trips a a 1#32 = 0 := by simp [Scf.trips]
  refine ⟨by decide, ?_⟩
  rw [h]
  have := BitVec.toInt_lt (x := a)
  simp at *
  omega

theorem chk_all (i : grid0.Coords) (v42 v694 : BitVec 32) : k0_chk1 i v42 v694 := by
  refine ⟨fun _ _ => ok_zero _, fun _ _ => ?_, fun _ _ => ok_zero _, fun _ _ => ?_⟩
  · show Scf.OK (Scalar.addi 0#32 (Scalar.muli (Scalar.divsi _ 1#32) 1#32)) (Scalar.addi 0#32 _) 1#32
    rw [Scalar.muli_divsi_one]; exact ok_self _
  · show Scf.OK (Scalar.addi 0#32 (Scalar.muli (Scalar.divsi _ 1#32) 1#32)) (Scalar.addi 0#32 _) 1#32
    rw [Scalar.muli_divsi_one]; exact ok_self _

abbrev ej (j : Fin 32) (p : CmpIPredicate) (k : BitVec 32) : BitVec 1 := Scalar.cmpi .ne (Scalar.extui (Scalar.cmpi p (BitVec.ofNat 32 j.val) k) : BitVec 32) 0#32
theorem c1_iff : ∀ j : Fin 32, ej j .eq 0#32 = 1#1 ↔ j.val = 0 := by decide
theorem c2_iff : ∀ j : Fin 32, ej j .slt 16#32 = 1#1 ↔ j.val < 16 := by decide
theorem c3_iff : ∀ j : Fin 32, ej j .eq 15#32 = 1#1 ↔ j.val = 15 := by decide
theorem c4_iff : ∀ j : Fin 32, ej j .eq 16#32 = 1#1 ↔ j.val = 16 := by decide
theorem c5_iff : ∀ j : Fin 32, Scalar.cmpi .ne (Scalar.extui (Scalar.xori (Scalar.cmpi .slt (BitVec.ofNat 32 j.val) 16#32) 1#1) : BitVec 32) 0#32 = 1#1 ↔ 16 ≤ j.val := by decide
theorem c8_iff : ∀ j : Fin 32, ej j .eq 31#32 = 1#1 ↔ j.val = 31 := by decide

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

abbrev pw (c : Dev nD) {sp : Space} {S : Shape} {e : EltTy} (M : Memref sig .tc sp S e) (f : Bf (F := F) c M) : sProp 𝕄 :=
  M.view.loc (c : Thread nD τ) ↦[M.view.set]{fullShare} f

/-- The extraction conditions in words: candidates remain, and the lane test did or did not overflow. -/
theorem c6_iff (a b : BitVec 32) : k0_cond6 a b = 1#1 ↔ Scalar.cmpi .sgt a 0#32 = 1#1 ∧ b = 0#32 := by
  have h : ∀ p q : BitVec 1, Scalar.cmpi .ne (Scalar.extui (Scalar.andi p q) : BitVec 32) 0#32 = 1#1 ↔ p = 1#1 ∧ q = 1#1 := by decide
  refine (h _ _).trans (and_congr Iff.rfl ?_)
  by_cases hb : b = 0#32 <;> simp [Scalar.cmpi, IntOp.cmpi, hb, bne, beq_eq_false_iff_ne.2]
theorem c7_iff (a b : BitVec 32) : k0_cond7 a b = 1#1 ↔ Scalar.cmpi .sgt a 0#32 = 1#1 ∧ b ≠ 0#32 := by
  have h : ∀ p q : BitVec 1, Scalar.cmpi .ne (Scalar.extui (Scalar.andi p q) : BitVec 32) 0#32 = 1#1 ↔ p = 1#1 ∧ q = 1#1 := by decide
  refine (h _ _).trans (and_congr Iff.rfl ?_)
  by_cases hb : b = 0#32 <;> simp [Scalar.cmpi, IntOp.cmpi, hb, bne, beq_eq_false_iff_ne.2]

theorem excl {a b : BitVec 32} (h : k0_cond6 a b = 1#1) : ¬ k0_cond7 a b = 1#1 :=
  fun h' => ((c7_iff a b).1 h').2 ((c6_iff a b).1 h).2

end Cert.Proof.KernelIdeal
end
-- ==== Proof.IFrame.lean ====
/-
  The idealized kernel's frame: the body run once on symbolic buffers, whatever they hold, and the launch over it.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic
public import Idealize.ShloMosaic.Lib.LoopRemainder
public import proofs.«01_k».proof.Proof.IBase

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

/-- The proof's resource algebra: the frame kit's. -/
local notation "𝕄" => MT nD τ sig Unit (Elt F) ℕ (UR sig nD τ) ℕ

/-- What an extraction loop carries. -/
abbrev Carried : Type := Vec F S256x32 .f32 × Vec F S256x32 .i32 × FVec F S256x1 .f32 × IVec S256x1 32

section Loops
variable (i : grid0.Coords) (arg2 : Memref sig .tc .vmem S256x32 .f32) (harg2 : arg2.IsWhole) (arg3 : Memref sig .tc .vmem S6272x32 .f32) (harg3 : arg3.IsWhole)
  (arg4 : Memref sig .tc .vmem S256x32 .i32) (harg4 : arg4.IsWhole) (arg5 : Memref sig .tc .vmem S256x128 .f32) (harg5 : arg5.IsWhole) (arg6 : Memref sig .tc .vmem S256x1 .f32) (harg6 : arg6.IsWhole)
  (arg7 : Memref sig .tc .vmem S256x32 .f32) (harg7 : arg7.IsWhole) (arg8 : Memref sig .tc .vmem S256x32 .i32) (harg8 : arg8.IsWhole)
  (v10 : IVec S256x6272 32) (hc5 : k0_cond5 i = 1#1) (v36 : FVec F S256x6272 .f32) (v42 : BitVec 32) (v43 : IVec S256x32 32) (v694 : BitVec 32) (hw : k0_chk1 i v42 v694)
  (v695 : FVec F S256x256 .f32) (v696 : IVec S256x256 32) (hc6 : k0_cond6 v42 v694 = 1#1) (hc7 : k0_cond7 v42 v694 = 1#1) (v739 : BitVec 32)

/-- A trip of either extraction loop has no effect: it is the return of some function of what it carries. -/
theorem t1_pure : ∃ g : Fin (k0_t1_loop v42).trips → Carried (F := F) → Carried (F := F), k0_t1_body (F := F) i arg2 harg2 arg3 harg3 arg4 harg4 arg5 harg5 arg6 harg6 arg7 harg7 arg8 harg8 hc5 v42 v43 v694 hw v695 v696 hc6 = fun k acc => Prog.ret (g k acc) :=
  ⟨fun k acc => _, funext fun k => funext fun acc => rfl⟩
theorem t2_pure : ∃ g : Fin (k0_t2_loop v42).trips → Carried (F := F) → Carried (F := F), k0_t2_body (F := F) i arg2 harg2 arg3 harg3 arg4 harg4 arg5 harg5 arg6 harg6 arg7 harg7 arg8 harg8 hc5 v42 v43 v694 hw v695 v696 hc6 v739 = fun k acc => Prog.ret (g k acc) :=
  ⟨fun k acc => _, funext fun k => funext fun acc => rfl⟩
theorem t3_pure : ∃ g : Fin (k0_t3_loop v42).trips → Carried (F := F) → Carried (F := F), k0_t3_body (F := F) i arg2 harg2 arg3 harg3 arg4 harg4 arg5 harg5 arg6 harg6 arg7 harg7 arg8 harg8 v10 hc5 v36 v42 v43 v694 hw hc7 = fun k acc => Prog.ret (g k acc) :=
  ⟨fun k acc => _, funext fun k => funext fun acc => rfl⟩
theorem t4_pure : ∃ g : Fin (k0_t4_loop v42).trips → Carried (F := F) → Carried (F := F), k0_t4_body (F := F) i arg2 harg2 arg3 harg3 arg4 harg4 arg5 harg5 arg6 harg6 arg7 harg7 arg8 harg8 v10 hc5 v36 v42 v43 v694 hw hc7 v739 = fun k acc => Prog.ret (g k acc) :=
  ⟨fun k acc => _, funext fun k => funext fun acc => rfl⟩
end Loops

/-- Loop 1 of the extraction keeps nothing: it touches no buffer. -/
@[sl_loop] noncomputable def loopInv_k0_t1 (c : Dev nD) (i : grid0.Coords) (arg2 : Memref sig .tc .vmem S256x32 .f32) (harg2 : arg2.IsWhole) (arg3 : Memref sig .tc .vmem S6272x32 .f32) (harg3 : arg3.IsWhole) (arg4 : Memref sig .tc .vmem S256x32 .i32) (harg4 : arg4.IsWhole) (arg5 : Memref sig .tc .vmem S256x128 .f32) (harg5 : arg5.IsWhole) (arg6 : Memref sig .tc .vmem S256x1 .f32) (harg6 : arg6.IsWhole) (arg7 : Memref sig .tc .vmem S256x32 .f32) (harg7 : arg7.IsWhole) (arg8 : Memref sig .tc .vmem S256x32 .i32) (harg8 : arg8.IsWhole) (k0_h5 : k0_cond5 i = 1#1) (v42 : BitVec 32) (v43 : IVec S256x32 32) (v694 : BitVec 32) (k0_hw1 : k0_chk1 i v42 v694) (v695 : FVec F S256x256 .f32) (v696 : IVec S256x256 32) (k0_h6 : k0_cond6 v42 v694 = 1#1) (init : Vec F S256x32 .f32 × Vec F S256x32 .i32 × FVec F S256x1 .f32 × IVec S256x1 32) :
    Cert.KernelIdeal.Gen.LoopInvTy_k0_t1 (F := F) Unit ℕ (UR sig nD τ) ℕ 𝒱₀ c none Set.univ i arg2 harg2 arg3 harg3 arg4 harg4 arg5 harg5 arg6 harg6 arg7 harg7 arg8 harg8 k0_h5 v42 v43 v694 k0_hw1 v695 v696 k0_h6 init where
  inv := fun _ _ => iprop(⌜True⌝)
  step := fun k acc => by
    rw [(t1_pure ..).choose_spec]
    iintro _
    sl_step
    ipureintro; trivial

/-- Loop 2 of the extraction keeps nothing: it touches no buffer. -/
@[sl_loop] noncomputable def loopInv_k0_t2 (c : Dev nD) (i : grid0.Coords) (arg2 : Memref sig .tc .vmem S256x32 .f32) (harg2 : arg2.IsWhole) (arg3 : Memref sig .tc .vmem S6272x32 .f32) (harg3 : arg3.IsWhole) (arg4 : Memref sig .tc .vmem S256x32 .i32) (harg4 : arg4.IsWhole) (arg5 : Memref sig .tc .vmem S256x128 .f32) (harg5 : arg5.IsWhole) (arg6 : Memref sig .tc .vmem S256x1 .f32) (harg6 : arg6.IsWhole) (arg7 : Memref sig .tc .vmem S256x32 .f32) (harg7 : arg7.IsWhole) (arg8 : Memref sig .tc .vmem S256x32 .i32) (harg8 : arg8.IsWhole) (k0_h5 : k0_cond5 i = 1#1) (v42 : BitVec 32) (v43 : IVec S256x32 32) (v694 : BitVec 32) (k0_hw1 : k0_chk1 i v42 v694) (v695 : FVec F S256x256 .f32) (v696 : IVec S256x256 32) (k0_h6 : k0_cond6 v42 v694 = 1#1) (v739 : BitVec 32) (init : Vec F S256x32 .f32 × Vec F S256x32 .i32 × FVec F S256x1 .f32 × IVec S256x1 32) :
    Cert.KernelIdeal.Gen.LoopInvTy_k0_t2 (F := F) Unit ℕ (UR sig nD τ) ℕ 𝒱₀ c none Set.univ i arg2 harg2 arg3 harg3 arg4 harg4 arg5 harg5 arg6 harg6 arg7 harg7 arg8 harg8 k0_h5 v42 v43 v694 k0_hw1 v695 v696 k0_h6 v739 init where
  inv := fun _ _ => iprop(⌜True⌝)
  step := fun k acc => by
    rw [(t2_pure ..).choose_spec]
    iintro _
    sl_step
    ipureintro; trivial

/-- Loop 3 of the extraction keeps nothing: it touches no buffer. -/
@[sl_loop] noncomputable def loopInv_k0_t3 (c : Dev nD) (i : grid0.Coords) (arg2 : Memref sig .tc .vmem S256x32 .f32) (harg2 : arg2.IsWhole) (arg3 : Memref sig .tc .vmem S6272x32 .f32) (harg3 : arg3.IsWhole) (arg4 : Memref sig .tc .vmem S256x32 .i32) (harg4 : arg4.IsWhole) (arg5 : Memref sig .tc .vmem S256x128 .f32) (harg5 : arg5.IsWhole) (arg6 : Memref sig .tc .vmem S256x1 .f32) (harg6 : arg6.IsWhole) (arg7 : Memref sig .tc .vmem S256x32 .f32) (harg7 : arg7.IsWhole) (arg8 : Memref sig .tc .vmem S256x32 .i32) (harg8 : arg8.IsWhole) (v10 : IVec S256x6272 32) (k0_h5 : k0_cond5 i = 1#1) (v36 : FVec F S256x6272 .f32) (v42 : BitVec 32) (v43 : IVec S256x32 32) (v694 : BitVec 32) (k0_hw1 : k0_chk1 i v42 v694) (k0_h7 : k0_cond7 v42 v694 = 1#1) (init : Vec F S256x32 .f32 × Vec F S256x32 .i32 × FVec F S256x1 .f32 × IVec S256x1 32) :
    Cert.KernelIdeal.Gen.LoopInvTy_k0_t3 (F := F) Unit ℕ (UR sig nD τ) ℕ 𝒱₀ c none Set.univ i arg2 harg2 arg3 harg3 arg4 harg4 arg5 harg5 arg6 harg6 arg7 harg7 arg8 harg8 v10 k0_h5 v36 v42 v43 v694 k0_hw1 k0_h7 init where
  inv := fun _ _ => iprop(⌜True⌝)
  step := fun k acc => by
    rw [(t3_pure ..).choose_spec]
    iintro _
    sl_step
    ipureintro; trivial

/-- Loop 4 of the extraction keeps nothing: it touches no buffer. -/
@[sl_loop] noncomputable def loopInv_k0_t4 (c : Dev nD) (i : grid0.Coords) (arg2 : Memref sig .tc .vmem S256x32 .f32) (harg2 : arg2.IsWhole) (arg3 : Memref sig .tc .vmem S6272x32 .f32) (harg3 : arg3.IsWhole) (arg4 : Memref sig .tc .vmem S256x32 .i32) (harg4 : arg4.IsWhole) (arg5 : Memref sig .tc .vmem S256x128 .f32) (harg5 : arg5.IsWhole) (arg6 : Memref sig .tc .vmem S256x1 .f32) (harg6 : arg6.IsWhole) (arg7 : Memref sig .tc .vmem S256x32 .f32) (harg7 : arg7.IsWhole) (arg8 : Memref sig .tc .vmem S256x32 .i32) (harg8 : arg8.IsWhole) (v10 : IVec S256x6272 32) (k0_h5 : k0_cond5 i = 1#1) (v36 : FVec F S256x6272 .f32) (v42 : BitVec 32) (v43 : IVec S256x32 32) (v694 : BitVec 32) (k0_hw1 : k0_chk1 i v42 v694) (k0_h7 : k0_cond7 v42 v694 = 1#1) (v739 : BitVec 32) (init : Vec F S256x32 .f32 × Vec F S256x32 .i32 × FVec F S256x1 .f32 × IVec S256x1 32) :
    Cert.KernelIdeal.Gen.LoopInvTy_k0_t4 (F := F) Unit ℕ (UR sig nD τ) ℕ 𝒱₀ c none Set.univ i arg2 harg2 arg3 harg3 arg4 harg4 arg5 harg5 arg6 harg6 arg7 harg7 arg8 harg8 v10 k0_h5 v36 v42 v43 v694 k0_hw1 k0_h7 v739 init where
  inv := fun _ _ => iprop(⌜True⌝)
  step := fun k acc => by
    rw [(t4_pure ..).choose_spec]
    iintro _
    sl_step
    ipureintro; trivial

section Parts
variable {c : Dev nD} {i : grid0.Coords} {M2 : Memref sig .tc .vmem S256x32 .f32} {h2 : M2.IsWhole} {M3 : Memref sig .tc .vmem S6272x32 .f32} {h3 : M3.IsWhole}
    {M4 : Memref sig .tc .vmem S256x32 .i32} {h4 : M4.IsWhole} {M5 : Memref sig .tc .vmem S256x128 .f32} {h5 : M5.IsWhole} {M6 : Memref sig .tc .vmem S256x1 .f32} {h6 : M6.IsWhole}
    {M7 : Memref sig .tc .vmem S256x32 .f32} {h7 : M7.IsWhole} {M8 : Memref sig .tc .vmem S256x32 .i32} {h8 : M8.IsWhole}
  {v10 : IVec S256x6272 32} {hc5 : k0_cond5 i = 1#1} {v36 : FVec F S256x6272 .f32} {v42 : BitVec 32} {v43 : IVec S256x32 32} {v694 : BitVec 32} {hw : k0_chk1 i v42 v694}
  {v695 : FVec F S256x256 .f32} {v696 : IVec S256x256 32} {hc6 : k0_cond6 v42 v694 = 1#1} {hc7 : k0_cond7 v42 v694 = 1#1} {v739 : BitVec 32}

/-- Extraction part 14 stores the two carried buffers and touches nothing else. -/
theorem part14_run {K : Vec F S256x32 .i32 → sProp 𝕄} : iprop((∃ f, pt (F := F) c M7 f) ∗ (∃ f, pt c M8 f) ∗ (∀ v f g, iprop(pt c M7 f ∗ pt c M8 g) -∗ K v))
    ⊢ wp frame (wpE (defs₀ (F := F)) 𝒱₀ c none) Set.univ (k0_part14 i M2 h2 M3 h3 M4 h4 M5 h5 M6 h6 M7 h7 M8 h8 hc5 v42 v43 v694 hw v695 v696 hc6) K := by
  iintro ⟨⟨%f7, H7⟩, ⟨%f8, H8⟩, Hk⟩
  sl_unfold [k0_part14]
  sl_exec!
  sl_step
  iapply Hk
  iframe

/-- Extraction part 23 stores the two carried buffers and touches nothing else. -/
theorem part23_run {K : Vec F S256x32 .i32 → sProp 𝕄} : iprop((∃ f, pt (F := F) c M7 f) ∗ (∃ f, pt c M8 f) ∗ (∀ v f g, iprop(pt c M7 f ∗ pt c M8 g) -∗ K v))
    ⊢ wp frame (wpE (defs₀ (F := F)) 𝒱₀ c none) Set.univ (k0_part23 i M2 h2 M3 h3 M4 h4 M5 h5 M6 h6 M7 h7 M8 h8 v10 hc5 v36 v42 v43 v694 hw hc7) K := by
  iintro ⟨⟨%f7, H7⟩, ⟨%f8, H8⟩, Hk⟩
  sl_unfold [k0_part23]
  sl_exec!
  sl_step
  iapply Hk
  iframe

end Parts

set_option maxRecDepth 16384 in
theorem bodyRun (c : Dev nD) (i : grid0.Coords) (M2 : Memref sig .tc .vmem S256x32 .f32) (h2 : M2.IsWhole) (M3 : Memref sig .tc .vmem S6272x32 .f32) (h3 : M3.IsWhole)
    (M4 : Memref sig .tc .vmem S256x32 .i32) (h4 : M4.IsWhole) (M5 : Memref sig .tc .vmem S256x128 .f32) (h5 : M5.IsWhole) (M6 : Memref sig .tc .vmem S256x1 .f32) (h6 : M6.IsWhole)
    (M7 : Memref sig .tc .vmem S256x32 .f32) (h7 : M7.IsWhole) (M8 : Memref sig .tc .vmem S256x32 .i32) (h8 : M8.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8)
    (K : PUnit → sProp 𝕄) :
    iprop(pw c M2 f2 ∗ pw c M3 f3 ∗ pw c M4 f4 ∗ pt c M5 f5 ∗ pt c M6 f6 ∗ pt c M7 f7 ∗ pt c M8 f8
      ∗ (iprop(pw c M2 f2 ∗ pw c M3 f3 ∗ (∃ f, pw c M4 f) ∗ (∃ f, pt c M5 f) ∗ (∃ f, pt c M6 f) ∗ (∃ f, pt c M7 f) ∗ (∃ f, pt c M8 f)) -∗ K ⟨⟩))
    ⊢ wp frame (wpE (defs₀ (F := F)) 𝒱₀ c none) Set.univ (cc0__body i M2 h2 M3 h3 M4 h4 M5 h5 M6 h6 M7 h7 M8 h8) K := by
  iintro ⟨H2, H3, H4, H5, H6, H7, H8, Hk⟩
  sl_unfold [cc0__body]
  have e1 := c1_iff (i 1); have e2 := c2_iff (i 1); have e3 := c3_iff (i 1); have e4 := c4_iff (i 1); have e5 := c5_iff (i 1); have e8 := c8_iff (i 1)
  by_cases a5 : 16 ≤ (i 1).val
  · have n1 := e1.not.2 (by omega); have n2 := e2.not.2 (by omega); have n3 := e3.not.2 (by omega); have p5 : k0_cond5 i = 1#1 := e5.2 a5
    by_cases a4 : (i 1).val = 16
    · have p4 := e4.2 a4; have n8 : ¬ k0_cond8 i = 1#1 := e8.not.2 (by omega)
      clear e1 e2 e3 e4 e5 e8
      sl_exec (disch := exact chk_all _ _ _)
      split
      · rename_i h6
        have h7 := excl h6
        apply exec_bind
        refine BIBase.Entails.trans ?_ part14_run
        iintro ⟨⟨⟨⟨⟨⟨⟨H2, H3⟩, H4⟩, H5⟩, H6⟩, H7⟩, H8⟩, Hk⟩
        isplitl [H7]; · iexists _; iexact H7
        isplitl [H8]; · iexists _; iexact H8
        iintro %v %f %g ⟨H7, H8⟩
        sl_exec!
        sl_step
        iapply Hk
        isplitl [H2]; · iexact H2
        isplitl [H3]; · iexact H3
        isplitl [H4]; · iexists _; iexact H4
        isplitl [H5]; · iexists _; iexact H5
        isplitl [H6]; · iexists _; iexact H6
        isplitl [H7]; · iexists _; iexact H7
        iexists _; iexact H8
      · sl_exec
        split
        · apply exec_bind
          refine BIBase.Entails.trans ?_ part23_run
          iintro ⟨⟨⟨⟨⟨⟨⟨H2, H3⟩, H4⟩, H5⟩, H6⟩, H7⟩, H8⟩, Hk⟩
          isplitl [H7]; · iexists _; iexact H7
          isplitl [H8]; · iexists _; iexact H8
          iintro %v %f %g ⟨H7, H8⟩
          sl_exec!
          sl_step
          iapply Hk
          isplitl [H2]; · iexact H2
          isplitl [H3]; · iexact H3
          isplitl [H4]; · iexists _; iexact H4
          isplitl [H5]; · iexists _; iexact H5
          isplitl [H6]; · iexists _; iexact H6
          isplitl [H7]; · iexists _; iexact H7
          iexists _; iexact H8
        · sl_exec!
          sl_step
          iapply Hk
          isplitl [H2]; · iexact H2
          isplitl [H3]; · iexact H3
          isplitl [H4]; · iexists _; iexact H4
          isplitl [H5]; · iexists _; iexact H5
          isplitl [H6]; · iexists _; iexact H6
          isplitl [H7]; · iexists _; iexact H7
          iexists _; iexact H8
    have n4 := e4.not.2 a4
    by_cases a8 : (i 1).val = 31
    · have p8 : k0_cond8 i = 1#1 := e8.2 a8
      clear e1 e2 e3 e4 e5 e8
      sl_exec (disch := exact chk_all _ _ _)
      split
      · rename_i h6
        have h7 := excl h6
        apply exec_bind
        refine BIBase.Entails.trans ?_ part14_run
        iintro ⟨⟨⟨⟨⟨⟨⟨H2, H3⟩, H4⟩, H5⟩, H6⟩, H7⟩, H8⟩, Hk⟩
        isplitl [H7]; · iexists _; iexact H7
        isplitl [H8]; · iexists _; iexact H8
        iintro %v %f %g ⟨H7, H8⟩
        sl_exec!
        sl_step
        iapply Hk
        isplitl [H2]; · iexact H2
        isplitl [H3]; · iexact H3
        isplitl [H4]; · iexists _; iexact H4
        isplitl [H5]; · iexists _; iexact H5
        isplitl [H6]; · iexists _; iexact H6
        isplitl [H7]; · iexists _; iexact H7
        iexists _; iexact H8
      · sl_exec
        split
        · apply exec_bind
          refine BIBase.Entails.trans ?_ part23_run
          iintro ⟨⟨⟨⟨⟨⟨⟨H2, H3⟩, H4⟩, H5⟩, H6⟩, H7⟩, H8⟩, Hk⟩
          isplitl [H7]; · iexists _; iexact H7
          isplitl [H8]; · iexists _; iexact H8
          iintro %v %f %g ⟨H7, H8⟩
          sl_exec!
          sl_step
          iapply Hk
          isplitl [H2]; · iexact H2
          isplitl [H3]; · iexact H3
          isplitl [H4]; · iexists _; iexact H4
          isplitl [H5]; · iexists _; iexact H5
          isplitl [H6]; · iexists _; iexact H6
          isplitl [H7]; · iexists _; iexact H7
          iexists _; iexact H8
        · sl_exec!
          sl_step
          iapply Hk
          isplitl [H2]; · iexact H2
          isplitl [H3]; · iexact H3
          isplitl [H4]; · iexists _; iexact H4
          isplitl [H5]; · iexists _; iexact H5
          isplitl [H6]; · iexists _; iexact H6
          isplitl [H7]; · iexists _; iexact H7
          iexists _; iexact H8
    · have n8 : ¬ k0_cond8 i = 1#1 := e8.not.2 a8
      clear e1 e2 e3 e4 e5 e8
      sl_exec (disch := exact chk_all _ _ _)
      split
      · rename_i h6
        have h7 := excl h6
        apply exec_bind
        refine BIBase.Entails.trans ?_ part14_run
        iintro ⟨⟨⟨⟨⟨⟨⟨H2, H3⟩, H4⟩, H5⟩, H6⟩, H7⟩, H8⟩, Hk⟩
        isplitl [H7]; · iexists _; iexact H7
        isplitl [H8]; · iexists _; iexact H8
        iintro %v %f %g ⟨H7, H8⟩
        sl_exec!
        sl_step
        iapply Hk
        isplitl [H2]; · iexact H2
        isplitl [H3]; · iexact H3
        isplitl [H4]; · iexists _; iexact H4
        isplitl [H5]; · iexists _; iexact H5
        isplitl [H6]; · iexists _; iexact H6
        isplitl [H7]; · iexists _; iexact H7
        iexists _; iexact H8
      · sl_exec
        split
        · apply exec_bind
          refine BIBase.Entails.trans ?_ part23_run
          iintro ⟨⟨⟨⟨⟨⟨⟨H2, H3⟩, H4⟩, H5⟩, H6⟩, H7⟩, H8⟩, Hk⟩
          isplitl [H7]; · iexists _; iexact H7
          isplitl [H8]; · iexists _; iexact H8
          iintro %v %f %g ⟨H7, H8⟩
          sl_exec!
          sl_step
          iapply Hk
          isplitl [H2]; · iexact H2
          isplitl [H3]; · iexact H3
          isplitl [H4]; · iexists _; iexact H4
          isplitl [H5]; · iexists _; iexact H5
          isplitl [H6]; · iexists _; iexact H6
          isplitl [H7]; · iexists _; iexact H7
          iexists _; iexact H8
        · sl_exec!
          sl_step
          iapply Hk
          isplitl [H2]; · iexact H2
          isplitl [H3]; · iexact H3
          isplitl [H4]; · iexists _; iexact H4
          isplitl [H5]; · iexists _; iexact H5
          isplitl [H6]; · iexists _; iexact H6
          isplitl [H7]; · iexists _; iexact H7
          iexists _; iexact H8
  · have p2 := e2.2 (by omega); have n4 := e4.not.2 (by omega); have n5 : ¬ k0_cond5 i = 1#1 := e5.not.2 a5; have n8 : ¬ k0_cond8 i = 1#1 := e8.not.2 (by omega)
    by_cases a1 : (i 1).val = 0
    · have p1 := e1.2 a1; have n3 := e3.not.2 (by omega)
      clear e1 e2 e3 e4 e5 e8
      sl_exec!
      sl_step
      iapply Hk
      isplitl [H2]; · iexact H2
      isplitl [H3]; · iexact H3
      isplitl [H4]; · iexists _; iexact H4
      isplitl [H5]; · iexists _; iexact H5
      isplitl [H6]; · iexists _; iexact H6
      isplitl [H7]; · iexists _; iexact H7
      iexists _; iexact H8
    have n1 := e1.not.2 a1
    by_cases a3 : (i 1).val = 15
    · have p3 := e3.2 a3
      clear e1 e2 e3 e4 e5 e8
      sl_exec!
      sl_step
      iapply Hk
      isplitl [H2]; · iexact H2
      isplitl [H3]; · iexact H3
      isplitl [H4]; · iexists _; iexact H4
      isplitl [H5]; · iexists _; iexact H5
      isplitl [H6]; · iexists _; iexact H6
      isplitl [H7]; · iexists _; iexact H7
      iexists _; iexact H8
    · have n3 := e3.not.2 a3
      clear e1 e2 e3 e4 e5 e8
      sl_exec!
      sl_step
      iapply Hk
      isplitl [H2]; · iexact H2
      isplitl [H3]; · iexact H3
      isplitl [H4]; · iexists _; iexact H4
      isplitl [H5]; · iexists _; iexact H5
      isplitl [H6]; · iexists _; iexact H6
      isplitl [H7]; · iexists _; iexact H7
      iexists _; iexact H8

/-! ## The launch -/

variable (m : (ℓ : Loc nD τ sig) → Buf (Elt F) ℓ) (ρ : Dev nD → PrngReg)

/-- The result's window is taken back at whatever the body leaves. -/
def fgt (w : Fin cfg0.W) : Bool := match w with
  | ⟨0, _⟩ => false
  | ⟨1, _⟩ => false
  | ⟨2, _⟩ => true

/-- The proof data: the inputs at their blocks, the scratch buffers at whatever they hold. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

theorem body_obligation (c : Dev nD) : BodyObligation (dats (F := F) m 0 c) (defs₀ (F := F)) 𝒱₀ () Set.univ fgt := fun t => by
  rw [bigSep_W0, bigSep_W0]
  sl_whnfR [defs₀, Defs.onTc]
  simp only [before0_0, before0_1, fgt]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1]
  unfold Pipeline.ΦA
  rw [scopedRest0_eq]
  unfold owns
  iintro ⟨⟨⟨⟨%f5, H5⟩, ⟨%f6, H6⟩, ⟨%f7, H7⟩, ⟨%f8, H8⟩⟩, Hp⟩, Ho, ⟨%d2, %f2, %hf2, H2⟩, ⟨%d3, %f3, %hf3, H3⟩, ⟨%d4, %f4, %hf4, H4⟩⟩
  iapply (bodyRun c (grid0.coords t) (stage0_0 (cfg0.slots t 0)) _ (stage0_1 (cfg0.slots t 1)) _ (stage0_2 (cfg0.slots t 2)) _
    (Memref.whole cc0_scratch0) _ (Memref.whole cc0_scratch1) _ (Memref.whole cc0_scratch2) _ (Memref.whole cc0_scratch3) _ f2 f3 f4 f5 f6 f7 f8 _)
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H2, H3, ⟨%g4, H4⟩, ⟨%g5, H5⟩, ⟨%g6, H6⟩, ⟨%g7, H7⟩, ⟨%g8, H8⟩⟩
  isplitl [H5 H6 H7 H8 Hp]
  · isplitl [H5 H6 H7 H8]
    · isplitl [H5]; · iexists _; iexact H5
      isplitl [H6]; · iexists _; iexact H6
      isplitl [H7]; · iexists _; iexact H7
      iexists _; iexact H8
    iexact Hp
  isplitl [Ho]; · iexact Ho
  isplitl [H2]
  · iexists f2; isplitr; · ipureintro; exact hf2
    iexact H2
  isplitl [H3]
  · iexists f3; isplitr; · ipureintro; exact hf3
    iexact H3
  iexists _; iexists g4; isplitr; · ipureintro; rfl
  iexact H4

set_option backward.isDefEq.respectTransparency.types false in
/-- Every run of the program ends, with its arrays as the launch library says and every counter at zero. -/
theorem run_main : θ_run defs (onTc (τ := τ) (main (F := F))) (s₀ m ρ)
    (fun r => Pipeline.RDat.FramePost (cfgs 0) (fun c => (dats m 0 c).toRForget fgt) (V m) r ∧ r.2.sem = fun _ => 0) :=
  Pipeline.θ_run_frame_forget (Q' := _) cfgs (dats m) (0 : Fin 1) launch0 defs₀ 𝒱₀ fgt m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The arguments are as they were, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨(((dats m 0 c).toRForget_arrAt_iff rfl _ _).1 ((h.1 c).1 0)).trans (((dats m 0 c).arrAt_in 0 rfl _).trans (V_main_arg0 m c)),
      ((h.1 c).2 main_arg1 (Pipeline.mem_restRefs_of main_arg1 (by decide) (by decide))).trans (V_main_arg1 m c)⟩, h.2⟩) (run_main m ρ)

end Cert.Proof.KernelIdeal
end
-- ==== Proof.Pure.lean ====
/-
  What one grid step computes from the contents of its buffers, as functions: the lane maxima, the threshold, the scan
  that keeps two candidates of each lane, and the extraction.
-/
module

public import proofs.«01_k».proof.Proof.Gen.KernelIdeal.Skeleton

@[expose] public section

noncomputable section

namespace Cert.Proof.KernelIdeal

open Cert.KernelIdeal Cert.KernelIdeal.Gen
open Idealize.ShloMosaic

variable {F : FTy → Type} [FloatOps F]

theorem slices_chunk {k : ℕ} (h : k < 49) : S256x6272.Slices ![0, 128 * k] S256x128 :=
  ⟨rfl, by
    intro a
    match a with
    | ⟨0, _⟩ => show 0 + 256 ≤ 256; omega
    | ⟨1, _⟩ => show 128 * k + 128 ≤ 6272; omega⟩

/-- Chunk `k` of the columns: 128 of them, one of each lane. -/
def chunk {α : Type} (x : S256x6272.Idx → α) (k : ℕ) (h : k < 49) : S256x128.Idx → α :=
  extractStridedSlice S256x128 ![0, 128 * k] x (slices_chunk h)

/-- Minus infinity everywhere. -/
def negInf (S : Shape) : FVec F S .f32 := broadcast S (Scalar.ofBits .f32 0xFF800000#32)

/-- The lane maxima after the first `k` chunks. -/
def laneMax (L : FVec F S256x128 .f32) (s : FVec F S256x6272 .f32) : (k : ℕ) → k ≤ 49 → FVec F S256x128 .f32
  | 0, _ => L
  | k + 1, h => maximumf (laneMax L s k (Nat.le_of_succ_le h)) (chunk s k h)

/-- The maximum of each row. -/
def rowMax {T : Shape} {d : List (Fin T.rank)} (hr : T.Reduces d S256) (v : FVec F T .f32) : FVec F S256x1 .f32 :=
  shapeCast S256x1 (multiReduction .maximumf d S256 v 0xFF800000#32 hr (.inl rfl) rfl) shapeCasts_S256_S256x1

/-- One round of the threshold: each row's maximum is taken out. -/
def dropMax (v : FVec F S256x128 .f32) : FVec F S256x128 .f32 :=
  select (cmpf .oeq v (broadcastTo S256x128 (rowMax reduces_S256x128_S256 v) broadcasts_S256x1_S256x128)) (negInf S256x128) v

/-- So many rounds of it. -/
def dropN (L : FVec F S256x128 .f32) : ℕ → FVec F S256x128 .f32
  | 0 => L
  | k + 1 => dropMax (dropN L k)

/-- The threshold: the maximum after 31 rounds. -/
def thresh (L : FVec F S256x128 .f32) : FVec F S256x1 .f32 :=
  rowMax reduces_S256x128_S256 (dropN L 31)

/-- What the lane scan keeps: the two best values of each lane, their columns, and how many candidates the lane has. -/
structure Scan (F : FTy → Type) where
  m1 : FVec F S256x128 .f32
  m2 : FVec F S256x128 .f32
  a1 : IVec S256x128 32
  a2 : IVec S256x128 32
  cl : IVec S256x128 32

/-- The scan after the first `k` chunks. -/
def scan (cand : IVec S256x6272 1) (sc : FVec F S256x6272 .f32) (col : IVec S256x6272 32) : (k : ℕ) → k ≤ 49 → Scan F
  | 0, _ => ⟨negInf _, negInf _, broadcast _ 0#32, broadcast _ 0#32, broadcast _ 0#32⟩
  | k + 1, h =>
    let p := scan cand sc col k (Nat.le_of_succ_le h)
    let v := chunk sc k h
    let vc := chunk col k h
    { m1 := select (cmpf .ogt v p.m1) v p.m1
      m2 := select (cmpf .ogt v p.m1) p.m1 (select (cmpf .ogt v p.m2) v p.m2)
      a1 := select (cmpf .ogt v p.m1) vc p.a1
      a2 := select (cmpf .ogt v p.m1) p.a1 (select (cmpf .ogt v p.m2) vc p.a2)
      cl := addi p.cl (extui 32 (chunk cand k h) natLt_1_32) }

/-- The columns' numbers that the reductions start from. -/
abbrev bigI : BitVec 32 := 1073741824#32

/-- The least of each row's numbers. -/
def rowMin {T : Shape} {d : List (Fin T.rank)} (hr : T.Reduces d S256) (v : IVec T 32) : IVec S256x1 32 :=
  shapeCast S256x1 (multiReductionI .minsi d S256 v 2147483647#32 hr rfl) shapeCasts_S256_S256x1

/-- What an extraction carries: values, columns, the next value and its column. -/
abbrev Car (F : FTy → Type) : Type := Vec F S256x32 .f32 × Vec F S256x32 .i32 × FVec F S256x1 .f32 × IVec S256x1 32

section Extract
variable {T : Shape} {d : List (Fin T.rank)} (hb : S256x1.Broadcasts T) (hr : T.Reduces d S256)

/-- The first value taken. -/
def exM (K : FVec F T .f32) : FVec F S256x1 .f32 := rowMax hr K

/-- The column of the first value taken. -/
def exC (K : FVec F T .f32) (col : IVec T 32) : IVec S256x1 32 :=
  rowMin hr (select (cmpf .oeq K (broadcastTo T (rowMax hr K) hb)) col (broadcast T bigI))

/-- The place of a value among those kept. -/
abbrev place (rv : FVec F S256x32 .f32) (m : FVec F S256x1 .f32) : IVec S256x1 32 :=
  shapeCast S256x1 (multiReductionI .add [1] S256
    (extui 32 (cmpf .oge rv (broadcastTo S256x32 m broadcasts_S256x1_S256x32)) natLt_1_32) 0#32 reduces_S256x32_S256 rfl) shapeCasts_S256_S256x1

/-- A row with one more entry at the place, those behind it moved on. -/
abbrev insertAt {α : Type} (lane : IVec S256x32 32) (pos : IVec S256x1 32) (act : IVec S256x1 1) (r : S256x32.Idx → α) (e : S256x1.Idx → α) : S256x32.Idx → α :=
  select (broadcastTo S256x32 (shapeCast S256x1 act shapeCasts_S256x1_S256x1) broadcasts_S256x1_S256x32)
    (select (cmpi .slt lane (broadcastTo S256x32 pos broadcasts_S256x1_S256x32)) r
      (select (cmpi .eq lane (broadcastTo S256x32 pos broadcasts_S256x1_S256x32))
        (broadcastTo S256x32 (shapeCast S256x1 e shapeCasts_S256x1_S256x1) broadcasts_S256x1_S256x32)
        (concatenate S256x32 1 [⟨S256x1, extractStridedSlice S256x1 ![0, 0] r slices_S256x32_o0_0_S256x1⟩,
          ⟨S256x31, extractStridedSlice S256x31 ![0, 0] r slices_S256x32_o0_0_S256x31⟩] concatenates_S256x1_S256x31_S256x32_d1))) r

/-- Those of the array that come after the value and column taken. -/
def later (K : FVec F T .f32) (col : IVec T 32) (m : FVec F S256x1 .f32) (c : IVec S256x1 32) : IVec T 1 :=
  ori (cmpf .olt K (broadcastTo T m hb))
    (andi (cmpf .oeq K (broadcastTo T m hb)) (cmpi .sgt col (broadcastTo T c hb)))

/-- What is left of the array after the value and column taken. -/
def rest (K : FVec F T .f32) (col : IVec T 32) (m : FVec F S256x1 .f32) (c : IVec S256x1 32) : FVec F T .f32 :=
  select (later hb K col m c) K (negInf T)

/-- One step of an extraction. -/
def exStep (lane : IVec S256x32 32) (K : FVec F T .f32) (col : IVec T 32) (a : Car F) : Car F :=
  let act := cmpf .ogt a.2.2.1 (extractStridedSlice S256x1 ![0, 31] a.1 slices_S256x32_o0_31_S256x1)
  let pos := place a.1 a.2.2.1
  let m' := rowMax hr (rest hb K col a.2.2.1 a.2.2.2)
  (insertAt lane pos act a.1 a.2.2.1, insertAt lane pos act a.2.1 a.2.2.2, m',
    rowMin hr (select (andi (cmpf .oeq (rest hb K col a.2.2.1 a.2.2.2) (broadcastTo T m' hb)) (later hb K col a.2.2.1 a.2.2.2)) col (broadcast T bigI)))

end Extract

end Cert.Proof.KernelIdeal
end
-- ==== Proof.IStep.lean ====
/-
  The trips of the two extraction loops are four extraction steps each.
-/
module

public import proofs.«01_k».proof.Proof.Pure

@[expose] public section

noncomputable section

namespace Cert.Proof.KernelIdeal.Val

open Cert.Proof.KernelIdeal Cert.KernelIdeal Cert.KernelIdeal.Gen
open Idealize.ShloMosaic Idealize.SL.Sem
open Idealize.ShloMosaic.TcCoe

variable {F : FTy → Type} [FloatOps F]

/-- The lane numbers. -/
abbrev laneNo : IVec S256x32 32 := iota .tc S256x32 32 [1] iota_S256x32_d1_w32

/-- The last of the values kept. -/
abbrev last (u : Car F) : FVec F S256x1 .f32 := extractStridedSlice S256x1 ![0, 31] u.1 slices_S256x32_o0_31_S256x1

theorem ret_bind {E : Type → Type} {α β : Type} (a : α) (k : α → Prog E β) : (Prog.ret a >>= k) = k a := rfl

section Loops
variable (i : grid0.Coords) (arg2 : Memref sig .tc .vmem S256x32 .f32) (harg2 : arg2.IsWhole) (arg3 : Memref sig .tc .vmem S6272x32 .f32) (harg3 : arg3.IsWhole)
  (arg4 : Memref sig .tc .vmem S256x32 .i32) (harg4 : arg4.IsWhole) (arg5 : Memref sig .tc .vmem S256x128 .f32) (harg5 : arg5.IsWhole) (arg6 : Memref sig .tc .vmem S256x1 .f32) (harg6 : arg6.IsWhole)
  (arg7 : Memref sig .tc .vmem S256x32 .f32) (harg7 : arg7.IsWhole) (arg8 : Memref sig .tc .vmem S256x32 .i32) (harg8 : arg8.IsWhole)
  (v10 : IVec S256x6272 32) (hc5 : k0_cond5 i = 1#1) (v36 : FVec F S256x6272 .f32) (v42 : BitVec 32) (v43 : IVec S256x32 32) (v694 : BitVec 32) (hw : k0_chk1 i v42 v694)
  (v695 : FVec F S256x256 .f32) (v696 : IVec S256x256 32) (hc6 : k0_cond6 v42 v694 = 1#1) (hc7 : k0_cond7 v42 v694 = 1#1) (v739 : BitVec 32)

include v43 v695 v696
theorem pay11_eq (u : Car F) : k0_pay11 v43 u.1 u.2.2.1 = (exStep (F := F) broadcasts_S256x1_S256x256 reduces_S256x256_S256 v43 v695 v696 u).1 := by
  simp only [exStep, k0_pay11, k0_pay9, k0_pay10, rowMin, rowMax, rest, later, negInf, last, insertAt, place]
theorem pay12_eq (u : Car F) : k0_pay12 v43 u.1 u.2.1 u.2.2.1 u.2.2.2 = (exStep (F := F) broadcasts_S256x1_S256x256 reduces_S256x256_S256 v43 v695 v696 u).2.1 := by
  simp only [exStep, k0_pay12, k0_pay9, k0_pay10, rowMin, rowMax, rest, later, negInf, last, insertAt, place]
theorem pay15_eq (u : Car F) : k0_pay15 v695 v696 u.2.2.1 u.2.2.2 = (exStep (F := F) broadcasts_S256x1_S256x256 reduces_S256x256_S256 v43 v695 v696 u).2.2.1 := by
  simp only [exStep, k0_pay15, k0_pay14, k0_pay13, rowMin, rowMax, rest, later, negInf, last, insertAt, place]
theorem pay16_eq (u : Car F) : k0_pay16 v695 v696 u.2.2.1 u.2.2.2 = (exStep (F := F) broadcasts_S256x1_S256x256 reduces_S256x256_S256 v43 v695 v696 u).2.2.2 := by
  simp only [exStep, k0_pay16, k0_pay15, k0_pay14, k0_pay13, rowMin, rowMax, rest, later, negInf, last, insertAt, place]
/-- Step 1 of a trip. -/
theorem part6_eq (a b : BitVec 32) (k : Fin (k0_t1_loop v42).trips) (u : Car F) : k0_part6 (F := F) i arg2 harg2 arg3 harg3 arg4 harg4 arg5 harg5 arg6 harg6 arg7 harg7 arg8 harg8 v42 v43 v695 v696 a b k u.1 u.2.1 u.2.2.1 u.2.2.2
    = Prog.ret ⟨(exStep (F := F) broadcasts_S256x1_S256x256 reduces_S256x256_S256 v43 v695 v696 u).1, (exStep (F := F) broadcasts_S256x1_S256x256 reduces_S256x256_S256 v43 v695 v696 u).2.1, (exStep (F := F) broadcasts_S256x1_S256x256 reduces_S256x256_S256 v43 v695 v696 u).2.2.1, (exStep (F := F) broadcasts_S256x1_S256x256 reduces_S256x256_S256 v43 v695 v696 u).2.2.2⟩ := by
  rw [k0_part6_eq_skeleton]
  unfold k0_part6_skel
  rw [pay11_eq v43 v695 v696, pay12_eq v43 v695 v696, pay15_eq v43 v695 v696, pay16_eq v43 v695 v696]
  rfl
theorem pay19_eq (u : Car F) : k0_pay19 v43 u.1 u.2.2.1 = (exStep (F := F) broadcasts_S256x1_S256x256 reduces_S256x256_S256 v43 v695 v696 u).1 := by
  simp only [exStep, k0_pay19, k0_pay17, k0_pay18, rowMin, rowMax, rest, later, negInf, last, insertAt, place]
theorem pay20_eq (u : Car F) : k0_pay20 v43 u.1 u.2.1 u.2.2.1 u.2.2.2 = (exStep (F := F) broadcasts_S256x1_S256x256 reduces_S256x256_S256 v43 v695 v696 u).2.1 := by
  simp only [exStep, k0_pay20, k0_pay17, k0_pay18, rowMin, rowMax, rest, later, negInf, last, insertAt, place]
theorem pay23_eq (u : Car F) : k0_pay23 v695 v696 u.2.2.1 u.2.2.2 = (exStep (F := F) broadcasts_S256x1_S256x256 reduces_S256x256_S256 v43 v695 v696 u).2.2.1 := by
  simp only [exStep, k0_pay23, k0_pay22, k0_pay21, rowMin, rowMax, rest, later, negInf, last, insertAt, place]
theorem pay24_eq (u : Car F) : k0_pay24 v695 v696 u.2.2.1 u.2.2.2 = (exStep (F := F) broadcasts_S256x1_S256x256 reduces_S256x256_S256 v43 v695 v696 u).2.2.2 := by
  simp only [exStep, k0_pay24, k0_pay23, k0_pay22, k0_pay21, rowMin, rowMax, rest, later, negInf, last, insertAt, place]
theorem pay25_eq (u : Car F) : k0_pay25 v43 u.1 u.2.2.1 = last (exStep (F := F) broadcasts_S256x1_S256x256 reduces_S256x256_S256 v43 v695 v696 u) := by
  simp only [exStep, k0_pay25, k0_pay19, k0_pay17, k0_pay18, rowMin, rowMax, rest, later, negInf, last, insertAt, place]
/-- Step 2 of a trip. -/
theorem part7_eq (u : Car F) : k0_part7 (F := F) i arg2 harg2 arg3 harg3 arg4 harg4 arg5 harg5 arg6 harg6 arg7 harg7 arg8 harg8 v43 v695 v696 u.1 u.2.1 u.2.2.1 u.2.2.2
    = Prog.ret ⟨(exStep (F := F) broadcasts_S256x1_S256x256 reduces_S256x256_S256 v43 v695 v696 u).1, (exStep (F := F) broadcasts_S256x1_S256x256 reduces_S256x256_S256 v43 v695 v696 u).2.1, (exStep (F := F) broadcasts_S256x1_S256x256 reduces_S256x256_S256 v43 v695 v696 u).2.2.1, (exStep (F := F) broadcasts_S256x1_S256x256 reduces_S256x256_S256 v43 v695 v696 u).2.2.2, last (exStep (F := F) broadcasts_S256x1_S256x256 reduces_S256x256_S256 v43 v695 v696 u)⟩ := by
  rw [k0_part7_eq_skeleton]
  unfold k0_part7_skel
  rw [pay19_eq v43 v695 v696, pay20_eq v43 v695 v696, pay23_eq v43 v695 v696, pay24_eq v43 v695 v696, pay25_eq v43 v695 v696]
  rfl
theorem pay28_eq (u : Car F) : k0_pay28 v43 u.1 u.2.2.1 (last u) = (exStep (F := F) broadcasts_S256x1_S256x256 reduces_S256x256_S256 v43 v695 v696 u).1 := by
  simp only [exStep, k0_pay28, k0_pay26, k0_pay27, rowMin, rowMax, rest, later, negInf, last, insertAt, place]
theorem pay29_eq (u : Car F) : k0_pay29 v43 u.1 u.2.1 u.2.2.1 u.2.2.2 (last u) = (exStep (F := F) broadcasts_S256x1_S256x256 reduces_S256x256_S256 v43 v695 v696 u).2.1 := by
  simp only [exStep, k0_pay29, k0_pay26, k0_pay27, rowMin, rowMax, rest, later, negInf, last, insertAt, place]
theorem pay32_eq (u : Car F) : k0_pay32 v695 v696 u.2.2.1 u.2.2.2 = (exStep (F := F) broadcasts_S256x1_S256x256 reduces_S256x256_S256 v43 v695 v696 u).2.2.1 := by
  simp only [exStep, k0_pay32, k0_pay31, k0_pay30, rowMin, rowMax, rest, later, negInf, last, insertAt, place]
theorem pay33_eq (u : Car F) : k0_pay33 v695 v696 u.2.2.1 u.2.2.2 = (exStep (F := F) broadcasts_S256x1_S256x256 reduces_S256x256_S256 v43 v695 v696 u).2.2.2 := by
  simp only [exStep, k0_pay33, k0_pay32, k0_pay31, k0_pay30, rowMin, rowMax, rest, later, negInf, last, insertAt, place]
theorem pay34_eq (u : Car F) : k0_pay34 v43 v695 v696 u.1 u.2.2.1 u.2.2.2 (last u) = cmpf .ogt (exStep (F := F) broadcasts_S256x1_S256x256 reduces_S256x256_S256 v43 v695 v696 u).2.2.1 (last (exStep (F := F) broadcasts_S256x1_S256x256 reduces_S256x256_S256 v43 v695 v696 u)) := by
  simp only [exStep, k0_pay34, k0_pay32, k0_pay31, k0_pay30, k0_pay28, k0_pay26, k0_pay27, rowMin, rowMax, rest, later, negInf, last, insertAt, place]
/-- Step 3 of a trip. -/
theorem part8_eq (u : Car F) : k0_part8 (F := F) i arg2 harg2 arg3 harg3 arg4 harg4 arg5 harg5 arg6 harg6 arg7 harg7 arg8 harg8 v43 v695 v696 u.1 u.2.1 u.2.2.1 u.2.2.2 (last u)
    = Prog.ret ⟨(exStep (F := F) broadcasts_S256x1_S256x256 reduces_S256x256_S256 v43 v695 v696 u).1, (exStep (F := F) broadcasts_S256x1_S256x256 reduces_S256x256_S256 v43 v695 v696 u).2.1, (exStep (F := F) broadcasts_S256x1_S256x256 reduces_S256x256_S256 v43 v695 v696 u).2.2.1, (exStep (F := F) broadcasts_S256x1_S256x256 reduces_S256x256_S256 v43 v695 v696 u).2.2.2, cmpf .ogt (exStep (F := F) broadcasts_S256x1_S256x256 reduces_S256x256_S256 v43 v695 v696 u).2.2.1 (last (exStep (F := F) broadcasts_S256x1_S256x256 reduces_S256x256_S256 v43 v695 v696 u))⟩ := by
  rw [k0_part8_eq_skeleton]
  unfold k0_part8_skel
  rw [pay28_eq v43 v695 v696, pay29_eq v43 v695 v696, pay32_eq v43 v695 v696, pay33_eq v43 v695 v696, pay34_eq v43 v695 v696]
  rfl
theorem pay36_eq (u : Car F) : k0_pay36 v43 u.1 u.2.2.1 (cmpf .ogt u.2.2.1 (last u)) = (exStep (F := F) broadcasts_S256x1_S256x256 reduces_S256x256_S256 v43 v695 v696 u).1 := by
  simp only [exStep, k0_pay36, k0_pay35, rowMin, rowMax, rest, later, negInf, last, insertAt, place]
theorem pay37_eq (u : Car F) : k0_pay37 v43 u.1 u.2.1 u.2.2.1 u.2.2.2 (cmpf .ogt u.2.2.1 (last u)) = (exStep (F := F) broadcasts_S256x1_S256x256 reduces_S256x256_S256 v43 v695 v696 u).2.1 := by
  simp only [exStep, k0_pay37, k0_pay35, rowMin, rowMax, rest, later, negInf, last, insertAt, place]
theorem pay40_eq (u : Car F) : k0_pay40 v695 v696 u.2.2.1 u.2.2.2 = (exStep (F := F) broadcasts_S256x1_S256x256 reduces_S256x256_S256 v43 v695 v696 u).2.2.1 := by
  simp only [exStep, k0_pay40, k0_pay39, k0_pay38, rowMin, rowMax, rest, later, negInf, last, insertAt, place]
theorem pay41_eq (u : Car F) : k0_pay41 v695 v696 u.2.2.1 u.2.2.2 = (exStep (F := F) broadcasts_S256x1_S256x256 reduces_S256x256_S256 v43 v695 v696 u).2.2.2 := by
  simp only [exStep, k0_pay41, k0_pay40, k0_pay39, k0_pay38, rowMin, rowMax, rest, later, negInf, last, insertAt, place]
/-- A whole trip: four steps. -/
theorem part9_eq (a b : BitVec 32) (k : Fin (k0_t1_loop v42).trips) (u : Car F) : k0_part9 (F := F) i arg2 harg2 arg3 harg3 arg4 harg4 arg5 harg5 arg6 harg6 arg7 harg7 arg8 harg8 v42 v43 v695 v696 a b k u.1 u.2.1 u.2.2.1 u.2.2.2
    = Prog.ret ⟨((exStep (F := F) broadcasts_S256x1_S256x256 reduces_S256x256_S256 v43 v695 v696)^[4] u).1, ((exStep (F := F) broadcasts_S256x1_S256x256 reduces_S256x256_S256 v43 v695 v696)^[4] u).2.1, ((exStep (F := F) broadcasts_S256x1_S256x256 reduces_S256x256_S256 v43 v695 v696)^[4] u).2.2.1, ((exStep (F := F) broadcasts_S256x1_S256x256 reduces_S256x256_S256 v43 v695 v696)^[4] u).2.2.2⟩ := by
  rw [k0_part9_eq_skeleton]
  unfold k0_part9_skel
  rw [part6_eq, ret_bind]
  dsimp only
  rw [part7_eq, ret_bind]
  dsimp only
  rw [part8_eq, ret_bind]
  dsimp only
  rw [pay36_eq v43 v695 v696, pay37_eq v43 v695 v696, pay40_eq v43 v695 v696, pay41_eq v43 v695 v696]
  rfl

omit v695 v696
include v10 v36
theorem pay80_eq (u : Car F) : k0_pay80 v43 u.1 u.2.2.1 = (exStep (F := F) broadcasts_S256x1_S256x6272 reduces_S256x6272_S256 v43 v36 v10 u).1 := by
  simp only [exStep, k0_pay80, k0_pay78, k0_pay79, rowMin, rowMax, rest, later, negInf, last, insertAt, place]
theorem pay81_eq (u : Car F) : k0_pay81 v43 u.1 u.2.1 u.2.2.1 u.2.2.2 = (exStep (F := F) broadcasts_S256x1_S256x6272 reduces_S256x6272_S256 v43 v36 v10 u).2.1 := by
  simp only [exStep, k0_pay81, k0_pay78, k0_pay79, rowMin, rowMax, rest, later, negInf, last, insertAt, place]
theorem pay84_eq (u : Car F) : k0_pay84 v10 v36 u.2.2.1 u.2.2.2 = (exStep (F := F) broadcasts_S256x1_S256x6272 reduces_S256x6272_S256 v43 v36 v10 u).2.2.1 := by
  simp only [exStep, k0_pay84, k0_pay83, k0_pay82, rowMin, rowMax, rest, later, negInf, last, insertAt, place]
theorem pay85_eq (u : Car F) : k0_pay85 v10 v36 u.2.2.1 u.2.2.2 = (exStep (F := F) broadcasts_S256x1_S256x6272 reduces_S256x6272_S256 v43 v36 v10 u).2.2.2 := by
  simp only [exStep, k0_pay85, k0_pay84, k0_pay83, k0_pay82, rowMin, rowMax, rest, later, negInf, last, insertAt, place]
/-- Step 1 of a trip. -/
theorem part15_eq (a b : BitVec 32) (k : Fin (k0_t3_loop v42).trips) (u : Car F) : k0_part15 (F := F) i arg2 harg2 arg3 harg3 arg4 harg4 arg5 harg5 arg6 harg6 arg7 harg7 arg8 harg8 v10 v36 v42 v43 a b k u.1 u.2.1 u.2.2.1 u.2.2.2
    = Prog.ret ⟨(exStep (F := F) broadcasts_S256x1_S256x6272 reduces_S256x6272_S256 v43 v36 v10 u).1, (exStep (F := F) broadcasts_S256x1_S256x6272 reduces_S256x6272_S256 v43 v36 v10 u).2.1, (exStep (F := F) broadcasts_S256x1_S256x6272 reduces_S256x6272_S256 v43 v36 v10 u).2.2.1, (exStep (F := F) broadcasts_S256x1_S256x6272 reduces_S256x6272_S256 v43 v36 v10 u).2.2.2⟩ := by
  rw [k0_part15_eq_skeleton]
  unfold k0_part15_skel
  rw [pay80_eq v10 v36 v43, pay81_eq v10 v36 v43, pay84_eq v10 v36 v43, pay85_eq v10 v36 v43]
  rfl
theorem pay88_eq (u : Car F) : k0_pay88 v43 u.1 u.2.2.1 = (exStep (F := F) broadcasts_S256x1_S256x6272 reduces_S256x6272_S256 v43 v36 v10 u).1 := by
  simp only [exStep, k0_pay88, k0_pay86, k0_pay87, rowMin, rowMax, rest, later, negInf, last, insertAt, place]
theorem pay89_eq (u : Car F) : k0_pay89 v43 u.1 u.2.1 u.2.2.1 u.2.2.2 = (exStep (F := F) broadcasts_S256x1_S256x6272 reduces_S256x6272_S256 v43 v36 v10 u).2.1 := by
  simp only [exStep, k0_pay89, k0_pay86, k0_pay87, rowMin, rowMax, rest, later, negInf, last, insertAt, place]
theorem pay92_eq (u : Car F) : k0_pay92 v10 v36 u.2.2.1 u.2.2.2 = (exStep (F := F) broadcasts_S256x1_S256x6272 reduces_S256x6272_S256 v43 v36 v10 u).2.2.1 := by
  simp only [exStep, k0_pay92, k0_pay91, k0_pay90, rowMin, rowMax, rest, later, negInf, last, insertAt, place]
theorem pay93_eq (u : Car F) : k0_pay93 v10 v36 u.2.2.1 u.2.2.2 = (exStep (F := F) broadcasts_S256x1_S256x6272 reduces_S256x6272_S256 v43 v36 v10 u).2.2.2 := by
  simp only [exStep, k0_pay93, k0_pay92, k0_pay91, k0_pay90, rowMin, rowMax, rest, later, negInf, last, insertAt, place]
theorem pay94_eq (u : Car F) : k0_pay94 v43 u.1 u.2.2.1 = last (exStep (F := F) broadcasts_S256x1_S256x6272 reduces_S256x6272_S256 v43 v36 v10 u) := by
  simp only [exStep, k0_pay94, k0_pay88, k0_pay86, k0_pay87, rowMin, rowMax, rest, later, negInf, last, insertAt, place]
/-- Step 2 of a trip. -/
theorem part16_eq (u : Car F) : k0_part16 (F := F) i arg2 harg2 arg3 harg3 arg4 harg4 arg5 harg5 arg6 harg6 arg7 harg7 arg8 harg8 v10 v36 v43 u.1 u.2.1 u.2.2.1 u.2.2.2
    = Prog.ret ⟨(exStep (F := F) broadcasts_S256x1_S256x6272 reduces_S256x6272_S256 v43 v36 v10 u).1, (exStep (F := F) broadcasts_S256x1_S256x6272 reduces_S256x6272_S256 v43 v36 v10 u).2.1, (exStep (F := F) broadcasts_S256x1_S256x6272 reduces_S256x6272_S256 v43 v36 v10 u).2.2.1, (exStep (F := F) broadcasts_S256x1_S256x6272 reduces_S256x6272_S256 v43 v36 v10 u).2.2.2, last (exStep (F := F) broadcasts_S256x1_S256x6272 reduces_S256x6272_S256 v43 v36 v10 u)⟩ := by
  rw [k0_part16_eq_skeleton]
  unfold k0_part16_skel
  rw [pay88_eq v10 v36 v43, pay89_eq v10 v36 v43, pay92_eq v10 v36 v43, pay93_eq v10 v36 v43, pay94_eq v10 v36 v43]
  rfl
theorem pay97_eq (u : Car F) : k0_pay97 v43 u.1 u.2.2.1 (last u) = (exStep (F := F) broadcasts_S256x1_S256x6272 reduces_S256x6272_S256 v43 v36 v10 u).1 := by
  simp only [exStep, k0_pay97, k0_pay95, k0_pay96, rowMin, rowMax, rest, later, negInf, last, insertAt, place]
theorem pay98_eq (u : Car F) : k0_pay98 v43 u.1 u.2.1 u.2.2.1 u.2.2.2 (last u) = (exStep (F := F) broadcasts_S256x1_S256x6272 reduces_S256x6272_S256 v43 v36 v10 u).2.1 := by
  simp only [exStep, k0_pay98, k0_pay95, k0_pay96, rowMin, rowMax, rest, later, negInf, last, insertAt, place]
theorem pay101_eq (u : Car F) : k0_pay101 v10 v36 u.2.2.1 u.2.2.2 = (exStep (F := F) broadcasts_S256x1_S256x6272 reduces_S256x6272_S256 v43 v36 v10 u).2.2.1 := by
  simp only [exStep, k0_pay101, k0_pay100, k0_pay99, rowMin, rowMax, rest, later, negInf, last, insertAt, place]
theorem pay102_eq (u : Car F) : k0_pay102 v10 v36 u.2.2.1 u.2.2.2 = (exStep (F := F) broadcasts_S256x1_S256x6272 reduces_S256x6272_S256 v43 v36 v10 u).2.2.2 := by
  simp only [exStep, k0_pay102, k0_pay101, k0_pay100, k0_pay99, rowMin, rowMax, rest, later, negInf, last, insertAt, place]
theorem pay103_eq (u : Car F) : k0_pay103 v10 v36 v43 u.1 u.2.2.1 u.2.2.2 (last u) = cmpf .ogt (exStep (F := F) broadcasts_S256x1_S256x6272 reduces_S256x6272_S256 v43 v36 v10 u).2.2.1 (last (exStep (F := F) broadcasts_S256x1_S256x6272 reduces_S256x6272_S256 v43 v36 v10 u)) := by
  simp only [exStep, k0_pay103, k0_pay101, k0_pay100, k0_pay99, k0_pay97, k0_pay95, k0_pay96, rowMin, rowMax, rest, later, negInf, last, insertAt, place]
/-- Step 3 of a trip. -/
theorem part17_eq (u : Car F) : k0_part17 (F := F) i arg2 harg2 arg3 harg3 arg4 harg4 arg5 harg5 arg6 harg6 arg7 harg7 arg8 harg8 v10 v36 v43 u.1 u.2.1 u.2.2.1 u.2.2.2 (last u)
    = Prog.ret ⟨(exStep (F := F) broadcasts_S256x1_S256x6272 reduces_S256x6272_S256 v43 v36 v10 u).1, (exStep (F := F) broadcasts_S256x1_S256x6272 reduces_S256x6272_S256 v43 v36 v10 u).2.1, (exStep (F := F) broadcasts_S256x1_S256x6272 reduces_S256x6272_S256 v43 v36 v10 u).2.2.1, (exStep (F := F) broadcasts_S256x1_S256x6272 reduces_S256x6272_S256 v43 v36 v10 u).2.2.2, cmpf .ogt (exStep (F := F) broadcasts_S256x1_S256x6272 reduces_S256x6272_S256 v43 v36 v10 u).2.2.1 (last (exStep (F := F) broadcasts_S256x1_S256x6272 reduces_S256x6272_S256 v43 v36 v10 u))⟩ := by
  rw [k0_part17_eq_skeleton]
  unfold k0_part17_skel
  rw [pay97_eq v10 v36 v43, pay98_eq v10 v36 v43, pay101_eq v10 v36 v43, pay102_eq v10 v36 v43, pay103_eq v10 v36 v43]
  rfl
theorem pay105_eq (u : Car F) : k0_pay105 v43 u.1 u.2.2.1 (cmpf .ogt u.2.2.1 (last u)) = (exStep (F := F) broadcasts_S256x1_S256x6272 reduces_S256x6272_S256 v43 v36 v10 u).1 := by
  simp only [exStep, k0_pay105, k0_pay104, rowMin, rowMax, rest, later, negInf, last, insertAt, place]
theorem pay106_eq (u : Car F) : k0_pay106 v43 u.1 u.2.1 u.2.2.1 u.2.2.2 (cmpf .ogt u.2.2.1 (last u)) = (exStep (F := F) broadcasts_S256x1_S256x6272 reduces_S256x6272_S256 v43 v36 v10 u).2.1 := by
  simp only [exStep, k0_pay106, k0_pay104, rowMin, rowMax, rest, later, negInf, last, insertAt, place]
theorem pay109_eq (u : Car F) : k0_pay109 v10 v36 u.2.2.1 u.2.2.2 = (exStep (F := F) broadcasts_S256x1_S256x6272 reduces_S256x6272_S256 v43 v36 v10 u).2.2.1 := by
  simp only [exStep, k0_pay109, k0_pay108, k0_pay107, rowMin, rowMax, rest, later, negInf, last, insertAt, place]
theorem pay110_eq (u : Car F) : k0_pay110 v10 v36 u.2.2.1 u.2.2.2 = (exStep (F := F) broadcasts_S256x1_S256x6272 reduces_S256x6272_S256 v43 v36 v10 u).2.2.2 := by
  simp only [exStep, k0_pay110, k0_pay109, k0_pay108, k0_pay107, rowMin, rowMax, rest, later, negInf, last, insertAt, place]
/-- A whole trip: four steps. -/
theorem part18_eq (a b : BitVec 32) (k : Fin (k0_t3_loop v42).trips) (u : Car F) : k0_part18 (F := F) i arg2 harg2 arg3 harg3 arg4 harg4 arg5 harg5 arg6 harg6 arg7 harg7 arg8 harg8 v10 v36 v42 v43 a b k u.1 u.2.1 u.2.2.1 u.2.2.2
    = Prog.ret ⟨((exStep (F := F) broadcasts_S256x1_S256x6272 reduces_S256x6272_S256 v43 v36 v10)^[4] u).1, ((exStep (F := F) broadcasts_S256x1_S256x6272 reduces_S256x6272_S256 v43 v36 v10)^[4] u).2.1, ((exStep (F := F) broadcasts_S256x1_S256x6272 reduces_S256x6272_S256 v43 v36 v10)^[4] u).2.2.1, ((exStep (F := F) broadcasts_S256x1_S256x6272 reduces_S256x6272_S256 v43 v36 v10)^[4] u).2.2.2⟩ := by
  rw [k0_part18_eq_skeleton]
  unfold k0_part18_skel
  rw [part15_eq, ret_bind]
  dsimp only
  rw [part16_eq, ret_bind]
  dsimp only
  rw [part17_eq, ret_bind]
  dsimp only
  rw [pay105_eq v10 v36 v43, pay106_eq v10 v36 v43, pay109_eq v10 v36 v43, pay110_eq v10 v36 v43]
  rfl
end Loops

/-- The most candidates of a row, as a word. -/
def tripW (s : FVec F S256x6272 .f32) (t : FVec F S256x1 .f32) : BitVec 32 := extractAt ![0, 0] (k0_pay149 s t) inpos_S1x1_p0_0

/-- Whether some lane has more than two candidates, as a word. -/
def overW (cl : IVec S256x128 32) : BitVec 32 := extractAt ![0, 0, 0] (k0_pay525 cl) inpos_S1x1x1_p0_0_0

/-- The values and columns kept, after `n` trips of an extraction from the array. -/
def extract {T : Shape} {d : List (Fin T.rank)} (hb : S256x1.Broadcasts T) (hr : T.Reduces d S256) (K : FVec F T .f32) (col : IVec T 32) (n : ℕ)
    (r : Vec F S256x32 .f32 × Vec F S256x32 .i32) : Car F :=
  (exStep hb hr laneNo K col)^[4]^[n] (r.1, r.2, exM hr K, exC hb hr K col)

/-- The fast extraction as the body runs it. -/
@[irreducible] def fastE (v42 : BitVec 32) (v43 : IVec S256x32 32) (v695 : FVec F S256x256 .f32) (v696 : IVec S256x256 32) (a : Vec F S256x32 .f32) (b : Vec F S256x32 .i32) : Car F :=
  (exStep (F := F) broadcasts_S256x1_S256x256 reduces_S256x256_S256 v43 v695 v696)^[4]^[(k0_t1_loop v42).trips] (a, b, k0_pay75 v695, k0_pay76 v695 v696)

/-- The slow extraction as the body runs it. -/
@[irreducible] def slowE (v10 : IVec S256x6272 32) (v36 : FVec F S256x6272 .f32) (v42 : BitVec 32) (v43 : IVec S256x32 32) (a : Vec F S256x32 .f32) (b : Vec F S256x32 .i32) : Car F :=
  (exStep (F := F) broadcasts_S256x1_S256x6272 reduces_S256x6272_S256 v43 v36 v10)^[4]^[(k0_t3_loop v42).trips] (a, b, k0_pay144 v36, k0_pay145 v10 v36)

/-- The two best values of each lane, side by side. -/
def laneK (n : Scan F) : FVec F S256x256 .f32 := concatenate S256x256 1 [⟨S256x128, n.m1⟩, ⟨S256x128, n.m2⟩] concatenates_S256x128_S256x128_S256x256_d1

/-- Their columns. -/
def laneC (n : Scan F) : IVec S256x256 32 := concatenate S256x256 1 [⟨S256x128, n.a1⟩, ⟨S256x128, n.a2⟩] concatenates_S256x128_S256x128_S256x256_d1

/-- What a step of the second phase makes of the values and columns kept, the lane scan given. -/
def phaseOf (n : Scan F) (s : FVec F S256x6272 .f32) (col : IVec S256x6272 32) (t : FVec F S256x1 .f32) (r : Vec F S256x32 .f32 × Vec F S256x32 .i32) : Vec F S256x32 .f32 × Vec F S256x32 .i32 :=
  if k0_cond6 (tripW s t) (overW n.cl) = 1#1 then
    ((extract broadcasts_S256x1_S256x256 reduces_S256x256_S256 (laneK n) (laneC n) (k0_t1_loop (tripW s t)).trips r).1,
      (extract broadcasts_S256x1_S256x256 reduces_S256x256_S256 (laneK n) (laneC n) (k0_t1_loop (tripW s t)).trips r).2.1)
  else if k0_cond7 (tripW s t) (overW n.cl) = 1#1 then
    ((extract broadcasts_S256x1_S256x6272 reduces_S256x6272_S256 (k0_pay148 s t) col (k0_t3_loop (tripW s t)).trips r).1,
      (extract broadcasts_S256x1_S256x6272 reduces_S256x6272_S256 (k0_pay148 s t) col (k0_t3_loop (tripW s t)).trips r).2.1)
  else r

/-- What a step of the second phase makes of the values and columns kept. -/
@[irreducible] def phase2 (s : FVec F S256x6272 .f32) (col : IVec S256x6272 32) (t : FVec F S256x1 .f32) (r : Vec F S256x32 .f32 × Vec F S256x32 .i32) : Vec F S256x32 .f32 × Vec F S256x32 .i32 :=
  phaseOf (scan (k0_pay147 s t) (k0_pay148 s t) col 49 (le_refl _)) s col t r

/-- What the scratch buffers hold between grid steps. -/
structure St (F : FTy → Type) [FloatOps F] where
  L : FVec F S256x128 .f32
  t : FVec F S256x1 .f32
  rv : Vec F S256x32 .f32
  ri : Vec F S256x32 .i32

/-- What a grid step makes of it, at the blocks it reads. -/
def stp (i : grid0.Coords) (x : Vec F S256x32 .f32) (w : Vec F S6272x32 .f32) (σ : St F) : St F where
  L := if (i 1).val < 16 then laneMax (if (i 1).val = 0 then negInf _ else σ.L) (k0_pay519 i x w) 49 (le_refl _) else σ.L
  t := if (i 1).val = 15 then thresh (laneMax σ.L (k0_pay519 i x w) 49 (le_refl _)) else σ.t
  rv := if (i 1).val < 16 then σ.rv else
    (phase2 (k0_pay519 i x w) (k0_pay518 i) σ.t (if (i 1).val = 16 then (negInf _, broadcast _ 0#32) else (σ.rv, σ.ri))).1
  ri := if (i 1).val < 16 then σ.ri else
    (phase2 (k0_pay519 i x w) (k0_pay518 i) σ.t (if (i 1).val = 16 then (negInf _, broadcast _ 0#32) else (σ.rv, σ.ri))).2

end Cert.Proof.KernelIdeal.Val
end
-- ==== Proof.IRun.lean ====
/-
  The idealized kernel's body run once on symbolic buffers, with what it leaves in each.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic
public import Idealize.ShloMosaic.Lib.LoopRemainder
public import proofs.«01_k».proof.Proof.IBase
public import proofs.«01_k».proof.Proof.IStep
public import Idealize.ShloMosaic.Lib.Pipeline.Value
public import Idealize.ShloMosaic.Lib.WritesUnit
public import Idealize.ShloMosaic.Lib.Pointwise.Reshape

@[expose] public section

noncomputable section

namespace Cert.Proof.KernelIdeal.Val

open Cert.Proof.KernelIdeal Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

/-- The proof's resource algebra: the frame kit's. -/
local notation "𝕄" => MT nD τ sig Unit (Elt F) ℕ (UR sig nD τ) ℕ

/-- The fold of a function that does not read the trip's number is its iterate. -/
theorem fold_const {σ : Type} {n : ℕ} (g : σ → σ) (init : σ) : Scf.fold (n := n) (fun _ a => g a) init = g^[n] init := by
  rw [Scf.fold_eq]
  have h : ∀ (l : List (Fin n)) (a : σ), l.foldl (fun acc _ => g acc) a = g^[l.length] a := by
    intro l
    induction l with
    | nil => intro a; rfl
    | cons x l ih => intro a; rw [List.foldl_cons, ih]; rfl
  rw [h, List.length_finRange]

theorem eta4 {α β γ δ : Type} (x : α × β × γ × δ) : x = (x.1, x.2.1, x.2.2.1, x.2.2.2) := rfl

theorem pure_eta4 {E : Type → Type} {α β γ δ : Type} (x : α × β × γ × δ) : (Pure.pure (x.1, x.2.1, x.2.2.1, x.2.2.2) : Prog E _) = Prog.ret x := rfl

theorem zeros2 : (![0, 0] : Fin 2 → ℕ) = fun _ => 0 := funext fun a => by fin_cases a <;> rfl

/-- A load of a whole buffer reads what it holds. -/
theorem readAt_zero {sp : Space} {S : Shape} {e : EltTy} (v : View sig .tc sp S e) {off : Fin S.rank → ℕ} (h : off = fun _ => 0) (inb : ∀ a, off a + S.size a ≤ S.size a)
    (f : v.ty.Contents (Elt F)) : View.readAt (Elt F) v (Rect.unit off S.size inb).toLoadRect f = v.read (Elt F) f :=
  View.ld_unit_zero h inb (v.read (Elt F) f)

/-- After a store of the whole buffer it holds what was stored. -/
theorem read_stored {sp : Space} {S : Shape} {e : EltTy} (v : View sig .tc sp S e) {off : Fin S.rank → ℕ} (h : off = fun _ => 0) (inb : ∀ a, off a + S.size a ≤ S.size a)
    (f : v.ty.Contents (Elt F)) (w : S.Idx → Elt F e) (L : List (View.Piece (Elt F) S e)) :
    v.read (Elt F) (v.writes (Elt F) f ((⟨Rect.unit off S.size inb, w⟩ : View.Piece (Elt F) S e) :: L)) = w :=
  funext fun y => View.read_writes_cons_unit_of_mem v f inb w L y y h fun a => (Nat.zero_add _).symm

section Parts
variable {c : Dev nD} {i : grid0.Coords} {M2 : Memref sig .tc .vmem S256x32 .f32} {h2 : M2.IsWhole} {M3 : Memref sig .tc .vmem S6272x32 .f32} {h3 : M3.IsWhole}
    {M4 : Memref sig .tc .vmem S256x32 .i32} {h4 : M4.IsWhole} {M5 : Memref sig .tc .vmem S256x128 .f32} {h5 : M5.IsWhole} {M6 : Memref sig .tc .vmem S256x1 .f32} {h6 : M6.IsWhole}
    {M7 : Memref sig .tc .vmem S256x32 .f32} {h7 : M7.IsWhole} {M8 : Memref sig .tc .vmem S256x32 .i32} {h8 : M8.IsWhole}
  {v10 : IVec S256x6272 32} {hc5 : k0_cond5 i = 1#1} {v36 : FVec F S256x6272 .f32} {v42 : BitVec 32} {v43 : IVec S256x32 32} {v694 : BitVec 32} {hw : k0_chk1 i v42 v694}
  {v695 : FVec F S256x256 .f32} {v696 : IVec S256x256 32} {hc6 : k0_cond6 v42 v694 = 1#1} {hc7 : k0_cond7 v42 v694 = 1#1} {v739 : BitVec 32}

/-- The fast extraction: four steps for each trip, from the two candidates of each lane. -/
theorem part14_run {K : Vec F S256x32 .i32 → sProp 𝕄} : iprop(∃ f7 : Bf (F := F) c M7, ∃ f8 : Bf (F := F) c M8, pt (F := F) c M7 f7 ∗ pt c M8 f8 ∗
    (iprop((∃ f, pt c M7 f ∗ ⌜M7.view.read (Elt F) f = (fastE v42 v43 v695 v696 (M7.view.read (Elt F) f7) (M8.view.read (Elt F) f8)).1⌝) ∗ pt c M8 f8) -∗
      K (fastE v42 v43 v695 v696 (M7.view.read (Elt F) f7) (M8.view.read (Elt F) f8)).2.1))
    ⊢ wp frame (wpE (defs₀ (F := F)) 𝒱₀ c none) Set.univ (k0_part14 i M2 h2 M3 h3 M4 h4 M5 h5 M6 h6 M7 h7 M8 h8 hc5 v42 v43 v694 hw v695 v696 hc6) K := by
  unfold fastE
  iintro ⟨%f7, %f8, H7, H8, Hk⟩
  sl_unfold [k0_part14]
  sl_exec
  rw [readAt_zero M7.view zeros2 _ f7, readAt_zero M8.view zeros2 _ f8]
  refine exec_loopForPure (Ix := Unit) (Name := ℕ) (U := UR sig nD τ) (Lvl := ℕ) (hok := _) (g := fun _ a => (exStep (F := F) broadcasts_S256x1_S256x256 reduces_S256x256_S256 v43 v695 v696)^[4] a) (hg := ?_) (hr := (fold_const _ _).trans (eta4 _)) (h := ?_)
  · intro k acc
    obtain ⟨a1, a2, a3, a4⟩ := acc
    unfold k0_t1_body
    dsimp only
    rw [part9_eq i _ _ _ _ _ _ _ _ _ _ _ _ _ _ v42 v43 v695 v696 _ _ k (a1, a2, a3, a4), ret_bind]
    dsimp only
    exact pure_eta4 _
  iintro ⟨⟨H7, H8⟩, Hk⟩
  sl_exec!
  sl_step
  iapply Hk
  isplitl [H7]
  · iexists _
    isplitl [H7]; · iexact H7
    ipureintro
    exact (read_stored M7.view zeros2 _ _ _ _).trans (shapeCast_id _ _)
  iexact H8

/-- The slow extraction: the same from the whole block. -/
theorem part23_run {K : Vec F S256x32 .i32 → sProp 𝕄} : iprop(∃ f7 : Bf (F := F) c M7, ∃ f8 : Bf (F := F) c M8, pt (F := F) c M7 f7 ∗ pt c M8 f8 ∗
    (iprop((∃ f, pt c M7 f ∗ ⌜M7.view.read (Elt F) f = (slowE v10 v36 v42 v43 (M7.view.read (Elt F) f7) (M8.view.read (Elt F) f8)).1⌝) ∗ pt c M8 f8) -∗
      K (slowE v10 v36 v42 v43 (M7.view.read (Elt F) f7) (M8.view.read (Elt F) f8)).2.1))
    ⊢ wp frame (wpE (defs₀ (F := F)) 𝒱₀ c none) Set.univ (k0_part23 i M2 h2 M3 h3 M4 h4 M5 h5 M6 h6 M7 h7 M8 h8 v10 hc5 v36 v42 v43 v694 hw hc7) K := by
  unfold slowE
  iintro ⟨%f7, %f8, H7, H8, Hk⟩
  sl_unfold [k0_part23]
  sl_exec
  rw [readAt_zero M7.view zeros2 _ f7, readAt_zero M8.view zeros2 _ f8]
  refine exec_loopForPure (Ix := Unit) (Name := ℕ) (U := UR sig nD τ) (Lvl := ℕ) (hok := _) (g := fun _ a => (exStep (F := F) broadcasts_S256x1_S256x6272 reduces_S256x6272_S256 v43 v36 v10)^[4] a) (hg := ?_) (hr := (fold_const _ _).trans (eta4 _)) (h := ?_)
  · intro k acc
    obtain ⟨a1, a2, a3, a4⟩ := acc
    unfold k0_t3_body
    dsimp only
    rw [part18_eq i _ _ _ _ _ _ _ _ _ _ _ _ _ _ v10 v36 v42 v43 _ _ k (a1, a2, a3, a4), ret_bind]
    dsimp only
    exact pure_eta4 _
  iintro ⟨⟨H7, H8⟩, Hk⟩
  sl_exec!
  sl_step
  iapply Hk
  isplitl [H7]
  · iexists _
    isplitl [H7]; · iexact H7
    ipureintro
    exact (read_stored M7.view zeros2 _ _ _ _).trans (shapeCast_id _ _)
  iexact H8

end Parts

/-- What the scratch buffers hold. -/
abbrev stOf {c : Dev nD} {M5 : Memref sig .tc .vmem S256x128 .f32} {M6 : Memref sig .tc .vmem S256x1 .f32} {M7 : Memref sig .tc .vmem S256x32 .f32} {M8 : Memref sig .tc .vmem S256x32 .i32}
    (f5 : Bf (F := F) c M5) (f6 : Bf (F := F) c M6) (f7 : Bf (F := F) c M7) (f8 : Bf (F := F) c M8) : St F :=
  ⟨M5.view.read (Elt F) f5, M6.view.read (Elt F) f6, M7.view.read (Elt F) f7, M8.view.read (Elt F) f8⟩

theorem inb2 : ∀ a : Fin 2, (![0, 0] : Fin 2 → ℕ) a + S256x32.size a ≤ S256x32.size a := by decide
theorem inb3 : ∀ a : Fin 2, (![0, 0] : Fin 2 → ℕ) a + S6272x32.size a ≤ S6272x32.size a := by decide
theorem inb5 : ∀ a : Fin 2, (![0, 0] : Fin 2 → ℕ) a + S256x128.size a ≤ S256x128.size a := by decide
theorem inb6 : ∀ a : Fin 2, (![0, 0] : Fin 2 → ℕ) a + S256x1.size a ≤ S256x1.size a := by decide

set_option maxRecDepth 100000 in
set_option maxHeartbeats 4000000 in
theorem bodyRunA (c : Dev nD) (i : grid0.Coords) (M2 : Memref sig .tc .vmem S256x32 .f32) (h2 : M2.IsWhole) (M3 : Memref sig .tc .vmem S6272x32 .f32) (h3 : M3.IsWhole)
    (M4 : Memref sig .tc .vmem S256x32 .i32) (h4 : M4.IsWhole) (M5 : Memref sig .tc .vmem S256x128 .f32) (h5 : M5.IsWhole) (M6 : Memref sig .tc .vmem S256x1 .f32) (h6 : M6.IsWhole)
    (M7 : Memref sig .tc .vmem S256x32 .f32) (h7 : M7.IsWhole) (M8 : Memref sig .tc .vmem S256x32 .i32) (h8 : M8.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8)
    (a5 : ¬ 16 ≤ (i 1).val) (K : PUnit → sProp 𝕄) :
    iprop(pw c M2 f2 ∗ pw c M3 f3 ∗ pw c M4 f4 ∗ pt c M5 f5 ∗ pt c M6 f6 ∗ pt c M7 f7 ∗ pt c M8 f8
      ∗ (iprop(pw c M2 f2 ∗ pw c M3 f3 ∗ (∃ f, pw c M4 f ∗ ⌜((i 1).val = 31 → M4.view.read (Elt F) f = (stp i (M2.view.read (Elt F) f2) (M3.view.read (Elt F) f3) (stOf f5 f6 f7 f8)).ri) ∧ ((i 1).val ≠ 31 → f = f4)⌝)
        ∗ (∃ f, pt c M5 f ∗ ⌜M5.view.read (Elt F) f = (stp i (M2.view.read (Elt F) f2) (M3.view.read (Elt F) f3) (stOf f5 f6 f7 f8)).L⌝) ∗ (∃ f, pt c M6 f ∗ ⌜M6.view.read (Elt F) f = (stp i (M2.view.read (Elt F) f2) (M3.view.read (Elt F) f3) (stOf f5 f6 f7 f8)).t⌝)
        ∗ (∃ f, pt c M7 f ∗ ⌜M7.view.read (Elt F) f = (stp i (M2.view.read (Elt F) f2) (M3.view.read (Elt F) f3) (stOf f5 f6 f7 f8)).rv⌝) ∗ (∃ f, pt c M8 f ∗ ⌜M8.view.read (Elt F) f = (stp i (M2.view.read (Elt F) f2) (M3.view.read (Elt F) f3) (stOf f5 f6 f7 f8)).ri⌝)) -∗ K ⟨⟩))
    ⊢ wp frame (wpE (defs₀ (F := F)) 𝒱₀ c none) Set.univ (cc0__body i M2 h2 M3 h3 M4 h4 M5 h5 M6 h6 M7 h7 M8 h8) K := by
  iintro ⟨H2, H3, H4, H5, H6, H7, H8, Hk⟩
  sl_unfold [cc0__body]
  have e1 := c1_iff (i 1); have e2 := c2_iff (i 1); have e3 := c3_iff (i 1); have e4 := c4_iff (i 1); have e5 := c5_iff (i 1); have e8 := c8_iff (i 1)
  have p2 := e2.2 (by omega); have n4 := e4.not.2 (by omega); have n5 : ¬ k0_cond5 i = 1#1 := e5.not.2 a5; have n8 : ¬ k0_cond8 i = 1#1 := e8.not.2 (by omega)
  have cs : ((i 1).val = 0 ∧ (i 1).val ≠ 15 ∧ ej (i 1) .eq 0#32 = 1#1 ∧ ¬ ej (i 1) .eq 15#32 = 1#1) ∨ ((i 1).val ≠ 0 ∧ (i 1).val = 15 ∧ ¬ ej (i 1) .eq 0#32 = 1#1 ∧ ej (i 1) .eq 15#32 = 1#1)
      ∨ ((i 1).val ≠ 0 ∧ (i 1).val ≠ 15 ∧ ¬ ej (i 1) .eq 0#32 = 1#1 ∧ ¬ ej (i 1) .eq 15#32 = 1#1) := by
    rw [e1, e3]; omega
  rcases cs with ⟨a1, a3, p1, p3⟩ | ⟨a1, a3, p1, p3⟩ | ⟨a1, a3, p1, p3⟩
  all_goals
    clear e1 e2 e3 e4 e5 e8
    sl_exec!
    sl_step
    iapply Hk
    isplitl [H2]; · iexact H2
    isplitl [H3]; · iexact H3
    isplitl [H4]
    · iexists _; isplitl [H4]; · iexact H4
      ipureintro; exact ⟨fun h => absurd h (by omega), fun _ => rfl⟩
    isplitl [H5]
    · iexists _; isplitl [H5]; · iexact H5
      ipureintro; rw [stp]; dsimp only; rw [if_pos (by omega)]
      rw [← readAt_zero M2.view zeros2 inb2 f2, ← readAt_zero M3.view zeros2 inb3 f3]
      first
        | rw [if_pos a1]
          refine (read_stored M5.view zeros2 _ _ _ _).trans ?_
          have hN : bodyRunA.sl.v32 (F := F) M5 = negInf S256x128 := by
            unfold bodyRunA.sl.v32 bodyRunA.sl.H5_1
            exact ((readAt_zero M5.view zeros2 _ _).trans (read_stored M5.view zeros2 _ _ _ _)).trans (shapeCast_id _ _)
          rw [← hN]
          exact (shapeCast_id _ _).trans rfl
        | rw [if_neg a1, ← readAt_zero M5.view zeros2 inb5 f5]; refine (read_stored M5.view zeros2 _ _ _ _).trans ?_; exact (shapeCast_id _ _).trans rfl
    isplitl [H6]
    · iexists _; isplitl [H6]; · iexact H6
      ipureintro; rw [stp]; dsimp only
      first
        | rw [if_neg a3]
        | rw [if_pos a3, ← readAt_zero M2.view zeros2 inb2 f2, ← readAt_zero M3.view zeros2 inb3 f3, ← readAt_zero M5.view zeros2 inb5 f5]; refine (read_stored M6.view zeros2 _ _ _ _).trans ?_
          have hN : bodyRunA.sl.v32_1 c i M2 M3 M5 f2 f3 f5 = laneMax (View.readAt (Elt F) M5.view (Rect.unit ![0, 0] S256x128.size inb5).toLoadRect f5)
              (k0_pay519 i (View.readAt (Elt F) M2.view (Rect.unit ![0, 0] S256x32.size inb2).toLoadRect f2)
                (View.readAt (Elt F) M3.view (Rect.unit ![0, 0] S6272x32.size inb3).toLoadRect f3)) 49 (le_refl _) := by
            unfold bodyRunA.sl.v32_1 bodyRunA.sl.H5_1_1
            exact ((readAt_zero M5.view zeros2 _ _).trans (read_stored M5.view zeros2 _ _ _ _)).trans ((shapeCast_id _ _).trans rfl)
          rw [← hN]
          exact (shapeCast_id _ _).trans rfl
    isplitl [H7]
    · iexists _; isplitl [H7]; · iexact H7
      ipureintro; rw [stp]; dsimp only; rw [if_pos (by omega)]
    iexists _; isplitl [H8]; · iexact H8
    ipureintro; rw [stp]; dsimp only; rw [if_pos (by omega)]

end Cert.Proof.KernelIdeal.Val
end
-- ==== Proof.IRun2.lean ====
/-
  The second phase of the idealized kernel's body run once on symbolic buffers, with what it leaves in each.
-/
module

public import proofs.«01_k».proof.Proof.IRun

@[expose] public section

noncomputable section

namespace Cert.Proof.KernelIdeal.Val

open Cert.Proof.KernelIdeal Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

/-- The proof's resource algebra: the frame kit's. -/
local notation "𝕄" => MT nD τ sig Unit (Elt F) ℕ (UR sig nD τ) ℕ

section
variable {s : FVec F S256x6272 .f32} {col : IVec S256x6272 32} {t : FVec F S256x1 .f32} {r : Vec F S256x32 .f32 × Vec F S256x32 .i32}

variable {a : Vec F S256x32 .f32} {b : Vec F S256x32 .i32} {v42 v694 : BitVec 32} {v43 : IVec S256x32 32} {n : Scan F} {v695 : FVec F S256x256 .f32} {v696 : IVec S256x256 32} {v36 : FVec F S256x6272 .f32} {v10 : IVec S256x6272 32}

theorem extract_eq {T : Shape} {d : List (Fin T.rank)} (hb : S256x1.Broadcasts T) (hr : T.Reduces d S256) (K : FVec F T .f32) (c : IVec T 32) (m : ℕ) (a : Vec F S256x32 .f32) (b : Vec F S256x32 .i32) :
    (exStep hb hr laneNo K c)^[4]^[m] (a, b, exM hr K, exC hb hr K c) = extract hb hr K c m (a, b) := rfl

theorem pay75_eq (v : FVec F S256x256 .f32) (w : IVec S256x256 32) : k0_pay75 v = exM reduces_S256x256_S256 v ∧ k0_pay76 v w = exC broadcasts_S256x1_S256x256 reduces_S256x256_S256 v w := by
  constructor <;> simp only [exM, exC, k0_pay75, k0_pay76, rowMin, rowMax]

theorem pay144_eq (v : FVec F S256x6272 .f32) (w : IVec S256x6272 32) : k0_pay144 v = exM reduces_S256x6272_S256 v ∧ k0_pay145 w v = exC broadcasts_S256x1_S256x6272 reduces_S256x6272_S256 v w := by
  constructor <;> simp only [exM, exC, k0_pay144, k0_pay145, rowMin, rowMax]

theorem pick_pos {c : Prop} [Decidable c] (h : c) (u : Car F) (y : Vec F S256x32 .f32 × Vec F S256x32 .i32) :
    u.1 = (if c then (u.1, u.2.1) else y).1 ∧ u.2.1 = (if c then (u.1, u.2.1) else y).2 := by
  rw [if_pos h]
  exact ⟨rfl, rfl⟩

theorem fast_run (h : k0_cond6 v42 v694 = 1#1) (hv : v42 = tripW s t) (ho : v694 = overW n.cl) (hl : v43 = laneNo)
    (hK : v695 = laneK n) (hc : v696 = laneC n) :
    (fastE v42 v43 v695 v696 a b).1 = (phaseOf n s col t (a, b)).1
    ∧ (fastE v42 v43 v695 v696 a b).2.1 = (phaseOf n s col t (a, b)).2 := by
  rw [hl, hK, hc, hv]
  rw [hv, ho] at h
  unfold fastE
  rw [(pay75_eq _ (laneC n)).1, (pay75_eq _ _).2, extract_eq, phaseOf]
  exact pick_pos h _ _

theorem slow_run (h : ¬ k0_cond6 v42 v694 = 1#1) (h' : k0_cond7 v42 v694 = 1#1) (hv : v42 = tripW s t) (ho : v694 = overW n.cl) (hl : v43 = laneNo)
    (hK : v36 = k0_pay148 s t) (hc : v10 = col) :
    (slowE v10 v36 v42 v43 a b).1 = (phaseOf n s col t (a, b)).1
    ∧ (slowE v10 v36 v42 v43 a b).2.1 = (phaseOf n s col t (a, b)).2 := by
  rw [hl, hK, hc, hv]
  rw [hv, ho] at h h'
  unfold slowE
  rw [(pay144_eq _ col).1, (pay144_eq _ _).2, extract_eq, phaseOf, if_neg h]
  exact pick_pos h' _ _

theorem no_run (h : ¬ k0_cond6 v42 v694 = 1#1) (h' : ¬ k0_cond7 v42 v694 = 1#1) (hv : v42 = tripW s t) (ho : v694 = overW n.cl) :
    phaseOf n s col t r = r := by
  rw [hv, ho] at h h'
  unfold phaseOf
  rw [if_neg h, if_neg h']
variable {cd : IVec S256x6272 1} {sc : FVec F S256x6272 .f32}

theorem fast (hcd : cd = k0_pay147 s t) (hsc : sc = k0_pay148 s t) (h : k0_cond6 v42 v694 = 1#1) (hv : v42 = tripW s t) (ho : v694 = overW (scan cd sc col 49 (le_refl _)).cl) (hl : v43 = laneNo)
    (hK : v695 = laneK (scan cd sc col 49 (le_refl _))) (hc : v696 = laneC (scan cd sc col 49 (le_refl _))) :
    (fastE v42 v43 v695 v696 a b).1 = (phase2 s col t (a, b)).1
    ∧ (fastE v42 v43 v695 v696 a b).2.1 = (phase2 s col t (a, b)).2 := by
  rw [phase2]
  rw [hcd, hsc] at ho hK hc
  exact fast_run h hv ho hl hK hc

theorem slow (hcd : cd = k0_pay147 s t) (hsc : sc = k0_pay148 s t) (h : ¬ k0_cond6 v42 v694 = 1#1) (h' : k0_cond7 v42 v694 = 1#1) (hv : v42 = tripW s t) (ho : v694 = overW (scan cd sc col 49 (le_refl _)).cl) (hl : v43 = laneNo)
    (hK : v36 = k0_pay148 s t) (hc : v10 = col) :
    (slowE v10 v36 v42 v43 a b).1 = (phase2 s col t (a, b)).1
    ∧ (slowE v10 v36 v42 v43 a b).2.1 = (phase2 s col t (a, b)).2 := by
  rw [phase2]
  rw [hcd, hsc] at ho
  exact slow_run h h' hv ho hl hK hc

theorem no (hcd : cd = k0_pay147 s t) (hsc : sc = k0_pay148 s t) (h : ¬ k0_cond6 v42 v694 = 1#1) (h' : ¬ k0_cond7 v42 v694 = 1#1) (hv : v42 = tripW s t) (ho : v694 = overW (scan cd sc col 49 (le_refl _)).cl) :
    phase2 s col t r = r := by
  rw [phase2]
  rw [hcd, hsc] at ho
  exact no_run h h' hv ho

end

set_option maxRecDepth 100000 in
set_option maxHeartbeats 4000000 in
theorem bodyRunB (c : Dev nD) (i : grid0.Coords) (M2 : Memref sig .tc .vmem S256x32 .f32) (h2 : M2.IsWhole) (M3 : Memref sig .tc .vmem S6272x32 .f32) (h3 : M3.IsWhole)
    (M4 : Memref sig .tc .vmem S256x32 .i32) (h4 : M4.IsWhole) (M5 : Memref sig .tc .vmem S256x128 .f32) (h5 : M5.IsWhole) (M6 : Memref sig .tc .vmem S256x1 .f32) (h6 : M6.IsWhole)
    (M7 : Memref sig .tc .vmem S256x32 .f32) (h7 : M7.IsWhole) (M8 : Memref sig .tc .vmem S256x32 .i32) (h8 : M8.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8)
    (a5 : 16 ≤ (i 1).val) (K : PUnit → sProp 𝕄) :
    iprop(pw c M2 f2 ∗ pw c M3 f3 ∗ pw c M4 f4 ∗ pt c M5 f5 ∗ pt c M6 f6 ∗ pt c M7 f7 ∗ pt c M8 f8
      ∗ (iprop(pw c M2 f2 ∗ pw c M3 f3 ∗ (∃ f, pw c M4 f ∗ ⌜((i 1).val = 31 → M4.view.read (Elt F) f = (stp i (M2.view.read (Elt F) f2) (M3.view.read (Elt F) f3) (stOf f5 f6 f7 f8)).ri) ∧ ((i 1).val ≠ 31 → f = f4)⌝)
        ∗ (∃ f, pt c M5 f ∗ ⌜M5.view.read (Elt F) f = (stp i (M2.view.read (Elt F) f2) (M3.view.read (Elt F) f3) (stOf f5 f6 f7 f8)).L⌝) ∗ (∃ f, pt c M6 f ∗ ⌜M6.view.read (Elt F) f = (stp i (M2.view.read (Elt F) f2) (M3.view.read (Elt F) f3) (stOf f5 f6 f7 f8)).t⌝)
        ∗ (∃ f, pt c M7 f ∗ ⌜M7.view.read (Elt F) f = (stp i (M2.view.read (Elt F) f2) (M3.view.read (Elt F) f3) (stOf f5 f6 f7 f8)).rv⌝) ∗ (∃ f, pt c M8 f ∗ ⌜M8.view.read (Elt F) f = (stp i (M2.view.read (Elt F) f2) (M3.view.read (Elt F) f3) (stOf f5 f6 f7 f8)).ri⌝)) -∗ K ⟨⟩))
    ⊢ wp frame (wpE (defs₀ (F := F)) 𝒱₀ c none) Set.univ (cc0__body i M2 h2 M3 h3 M4 h4 M5 h5 M6 h6 M7 h7 M8 h8) K := by
  iintro ⟨H2, H3, H4, H5, H6, H7, H8, Hk⟩
  sl_unfold [cc0__body]
  have e1 := c1_iff (i 1); have e2 := c2_iff (i 1); have e3 := c3_iff (i 1); have e4 := c4_iff (i 1); have e5 := c5_iff (i 1); have e8 := c8_iff (i 1)
  have n1 := e1.not.2 (by omega); have n2 := e2.not.2 (by omega); have n3 := e3.not.2 (by omega); have p5 : k0_cond5 i = 1#1 := e5.2 a5
  have cs : ((i 1).val = 16 ∧ (i 1).val ≠ 31 ∧ ej (i 1) .eq 16#32 = 1#1 ∧ ¬ k0_cond8 i = 1#1) ∨ ((i 1).val ≠ 16 ∧ (i 1).val = 31 ∧ ¬ ej (i 1) .eq 16#32 = 1#1 ∧ k0_cond8 i = 1#1)
      ∨ ((i 1).val ≠ 16 ∧ (i 1).val ≠ 31 ∧ ¬ ej (i 1) .eq 16#32 = 1#1 ∧ ¬ k0_cond8 i = 1#1) := by
    rw [e4, show (k0_cond8 i = 1#1) ↔ _ from e8]; omega
  have h16 : ¬ (i 1).val < 16 := by omega
  have hX : ∀ (f7 : Bf (F := F) c M7) (f8 : Bf (F := F) c M8), (stp i (M2.view.read (Elt F) f2) (M3.view.read (Elt F) f3) (stOf f5 f6 f7 f8)).rv = (phase2 (k0_pay519 i (View.readAt (Elt F) M2.view (Rect.unit ![0, 0] S256x32.size inb2).toLoadRect f2) (View.readAt (Elt F) M3.view (Rect.unit ![0, 0] S6272x32.size inb3).toLoadRect f3)) (k0_pay518 i) (View.readAt (Elt F) M6.view (Rect.unit ![0, 0] S256x1.size inb6).toLoadRect f6)
          (if (i 1).val = 16 then (negInf _, broadcast _ 0#32) else (M7.view.read (Elt F) f7, M8.view.read (Elt F) f8))).1
        ∧ (stp i (M2.view.read (Elt F) f2) (M3.view.read (Elt F) f3) (stOf f5 f6 f7 f8)).ri = (phase2 (k0_pay519 i (View.readAt (Elt F) M2.view (Rect.unit ![0, 0] S256x32.size inb2).toLoadRect f2) (View.readAt (Elt F) M3.view (Rect.unit ![0, 0] S6272x32.size inb3).toLoadRect f3)) (k0_pay518 i) (View.readAt (Elt F) M6.view (Rect.unit ![0, 0] S256x1.size inb6).toLoadRect f6)
          (if (i 1).val = 16 then (negInf _, broadcast _ 0#32) else (M7.view.read (Elt F) f7, M8.view.read (Elt F) f8))).2 := by
      intro f7 f8
      rw [stp, readAt_zero M2.view zeros2 inb2, readAt_zero M3.view zeros2 inb3, readAt_zero M6.view zeros2 inb6]
      dsimp only
      rw [if_neg h16, if_neg h16]
      exact ⟨rfl, rfl⟩
  have q7 : ∀ (f7 : Bf (F := F) c M7), M7.view.read (Elt F) (M7.view.writes (Elt F) f7 [⟨Rect.unit ![0, 0] S256x32.size inb_S256x32_S256x32_0_0, k0_pay523⟩]) = negInf S256x32 := fun _ =>
      (read_stored M7.view zeros2 _ _ _ _).trans (shapeCast_id _ _)
  have q8 : ∀ (f8 : Bf (F := F) c M8), M8.view.read (Elt F) (M8.view.writes (Elt F) f8 [⟨Rect.unit ![0, 0] S256x32.size inb_S256x32_S256x32_0_0, k0_pay524⟩]) = broadcast S256x32 0#32 := fun _ =>
      (read_stored M8.view zeros2 _ _ _ _).trans (shapeCast_id _ _)
  rcases cs with ⟨a4, a8, p4, p8⟩ | ⟨a4, a8, p4, p8⟩ | ⟨a4, a8, p4, p8⟩
  all_goals
    clear e1 e2 e3 e4 e5 e8
    sl_exec (disch := exact chk_all _ _ _)
    split
    · rename_i h6
      have h7 := excl h6
      apply exec_bind
      refine BIBase.Entails.trans ?_ part14_run
      iintro ⟨⟨⟨⟨⟨⟨⟨H2, H3⟩, H4⟩, H5⟩, H6⟩, H7⟩, H8⟩, Hk⟩
      iexists _; iexists _
      isplitl [H7]; · iexact H7
      isplitl [H8]; · iexact H8
      iintro ⟨⟨%f, H7, %hf⟩, H8⟩
      sl_exec!
      sl_step
      iapply Hk
      isplitl [H2]; · iexact H2
      isplitl [H3]; · iexact H3
      isplitl [H4]
      · iexists _; isplitl [H4]; · iexact H4
        ipureintro
        first
          | (exact ⟨fun h => absurd h (by omega), fun _ => rfl⟩)
          | (refine ⟨fun hh => ?_, fun h => absurd (show (i 1).val = 31 from a8) h⟩
             unfold bodyRunB.sl.H4_1
             refine (read_stored M4.view zeros2 _ _ _ _).trans ?_
             unfold bodyRunB.sl.v32
             refine (readAt_zero M8.view zeros2 _ _).trans ?_
             refine (read_stored M8.view zeros2 _ _ _ _).trans ((shapeCast_id _ _).trans ?_)
             rw [(hX _ _).2, if_neg a4]; exact (fast (cd := bodyRunB.sl.r_86 c i M2 M3 M6 f2 f3 f6) (sc := bodyRunB.sl.r_87 c i M2 M3 M6 f2 f3 f6) (s := (k0_pay519 i (View.readAt (Elt F) M2.view (Rect.unit ![0, 0] S256x32.size inb2).toLoadRect f2) (View.readAt (Elt F) M3.view (Rect.unit ![0, 0] S6272x32.size inb3).toLoadRect f3))) (t := (View.readAt (Elt F) M6.view (Rect.unit ![0, 0] S256x1.size inb6).toLoadRect f6)) (col := k0_pay518 i) (by unfold bodyRunB.sl.r_86; exact rfl) (by unfold bodyRunB.sl.r_87; exact rfl) h6 (by unfold tripW; exact rfl) (by unfold overW; exact rfl) (by exact rfl) (by unfold laneK; exact rfl) (by unfold laneC; exact rfl)).2)
      isplitl [H5]
      · iexists _; isplitl [H5]; · iexact H5
        ipureintro; rw [stp]; dsimp only; rw [if_neg (by omega)]
      isplitl [H6]
      · iexists _; isplitl [H6]; · iexact H6
        ipureintro; rw [stp]; dsimp only; rw [if_neg (by omega)]
      isplitl [H7]
      · iexists _; isplitl [H7]; · iexact H7
        ipureintro; rw [(hX _ _).1]
        first
          | (rw [if_pos a4]; rw [q7, q8] at hf; exact hf.trans (fast (cd := bodyRunB.sl.r c i M2 M3 M6 f2 f3 f6) (sc := bodyRunB.sl.r_1 c i M2 M3 M6 f2 f3 f6) (s := (k0_pay519 i (View.readAt (Elt F) M2.view (Rect.unit ![0, 0] S256x32.size inb2).toLoadRect f2) (View.readAt (Elt F) M3.view (Rect.unit ![0, 0] S6272x32.size inb3).toLoadRect f3))) (t := (View.readAt (Elt F) M6.view (Rect.unit ![0, 0] S256x1.size inb6).toLoadRect f6)) (col := k0_pay518 i) (by unfold bodyRunB.sl.r; exact rfl) (by unfold bodyRunB.sl.r_1; exact rfl) h6 (by unfold tripW; exact rfl) (by unfold overW; exact rfl) (by exact rfl) (by unfold laneK; exact rfl) (by unfold laneC; exact rfl)).1)
          | (have hh : (i 1).val = 31 := a8; rw [if_neg a4]; exact hf.trans (fast (cd := bodyRunB.sl.r_86 c i M2 M3 M6 f2 f3 f6) (sc := bodyRunB.sl.r_87 c i M2 M3 M6 f2 f3 f6) (s := (k0_pay519 i (View.readAt (Elt F) M2.view (Rect.unit ![0, 0] S256x32.size inb2).toLoadRect f2) (View.readAt (Elt F) M3.view (Rect.unit ![0, 0] S6272x32.size inb3).toLoadRect f3))) (t := (View.readAt (Elt F) M6.view (Rect.unit ![0, 0] S256x1.size inb6).toLoadRect f6)) (col := k0_pay518 i) (by unfold bodyRunB.sl.r_86; exact rfl) (by unfold bodyRunB.sl.r_87; exact rfl) h6 (by unfold tripW; exact rfl) (by unfold overW; exact rfl) (by exact rfl) (by unfold laneK; exact rfl) (by unfold laneC; exact rfl)).1)
          | (have hh : (i 1).val ≠ 31 := a8; rw [if_neg a4]; exact hf.trans (fast (cd := bodyRunB.sl.r_172 c i M2 M3 M6 f2 f3 f6) (sc := bodyRunB.sl.r_173 c i M2 M3 M6 f2 f3 f6) (s := (k0_pay519 i (View.readAt (Elt F) M2.view (Rect.unit ![0, 0] S256x32.size inb2).toLoadRect f2) (View.readAt (Elt F) M3.view (Rect.unit ![0, 0] S6272x32.size inb3).toLoadRect f3))) (t := (View.readAt (Elt F) M6.view (Rect.unit ![0, 0] S256x1.size inb6).toLoadRect f6)) (col := k0_pay518 i) (by unfold bodyRunB.sl.r_172; exact rfl) (by unfold bodyRunB.sl.r_173; exact rfl) h6 (by unfold tripW; exact rfl) (by unfold overW; exact rfl) (by exact rfl) (by unfold laneK; exact rfl) (by unfold laneC; exact rfl)).1)
      iexists _; isplitl [H8]; · iexact H8
      ipureintro; rw [(hX _ _).2]
      refine (read_stored M8.view zeros2 _ _ _ _).trans ((shapeCast_id _ _).trans ?_)
      first
        | (rw [if_pos a4, q7, q8]; exact (fast (cd := bodyRunB.sl.r c i M2 M3 M6 f2 f3 f6) (sc := bodyRunB.sl.r_1 c i M2 M3 M6 f2 f3 f6) (s := (k0_pay519 i (View.readAt (Elt F) M2.view (Rect.unit ![0, 0] S256x32.size inb2).toLoadRect f2) (View.readAt (Elt F) M3.view (Rect.unit ![0, 0] S6272x32.size inb3).toLoadRect f3))) (t := (View.readAt (Elt F) M6.view (Rect.unit ![0, 0] S256x1.size inb6).toLoadRect f6)) (col := k0_pay518 i) (by unfold bodyRunB.sl.r; exact rfl) (by unfold bodyRunB.sl.r_1; exact rfl) h6 (by unfold tripW; exact rfl) (by unfold overW; exact rfl) (by exact rfl) (by unfold laneK; exact rfl) (by unfold laneC; exact rfl)).2)
        | (have hh : (i 1).val = 31 := a8; rw [if_neg a4]; exact (fast (cd := bodyRunB.sl.r_86 c i M2 M3 M6 f2 f3 f6) (sc := bodyRunB.sl.r_87 c i M2 M3 M6 f2 f3 f6) (s := (k0_pay519 i (View.readAt (Elt F) M2.view (Rect.unit ![0, 0] S256x32.size inb2).toLoadRect f2) (View.readAt (Elt F) M3.view (Rect.unit ![0, 0] S6272x32.size inb3).toLoadRect f3))) (t := (View.readAt (Elt F) M6.view (Rect.unit ![0, 0] S256x1.size inb6).toLoadRect f6)) (col := k0_pay518 i) (by unfold bodyRunB.sl.r_86; exact rfl) (by unfold bodyRunB.sl.r_87; exact rfl) h6 (by unfold tripW; exact rfl) (by unfold overW; exact rfl) (by exact rfl) (by unfold laneK; exact rfl) (by unfold laneC; exact rfl)).2)
        | (have hh : (i 1).val ≠ 31 := a8; rw [if_neg a4]; exact (fast (cd := bodyRunB.sl.r_172 c i M2 M3 M6 f2 f3 f6) (sc := bodyRunB.sl.r_173 c i M2 M3 M6 f2 f3 f6) (s := (k0_pay519 i (View.readAt (Elt F) M2.view (Rect.unit ![0, 0] S256x32.size inb2).toLoadRect f2) (View.readAt (Elt F) M3.view (Rect.unit ![0, 0] S6272x32.size inb3).toLoadRect f3))) (t := (View.readAt (Elt F) M6.view (Rect.unit ![0, 0] S256x1.size inb6).toLoadRect f6)) (col := k0_pay518 i) (by unfold bodyRunB.sl.r_172; exact rfl) (by unfold bodyRunB.sl.r_173; exact rfl) h6 (by unfold tripW; exact rfl) (by unfold overW; exact rfl) (by exact rfl) (by unfold laneK; exact rfl) (by unfold laneC; exact rfl)).2)
    · sl_exec
      split
      · rename_i h6 h7
        apply exec_bind
        refine BIBase.Entails.trans ?_ part23_run
        iintro ⟨⟨⟨⟨⟨⟨⟨H2, H3⟩, H4⟩, H5⟩, H6⟩, H7⟩, H8⟩, Hk⟩
        iexists _; iexists _
        isplitl [H7]; · iexact H7
        isplitl [H8]; · iexact H8
        iintro ⟨⟨%f, H7, %hf⟩, H8⟩
        sl_exec!
        sl_step
        iapply Hk
        isplitl [H2]; · iexact H2
        isplitl [H3]; · iexact H3
        isplitl [H4]
        · iexists _; isplitl [H4]; · iexact H4
          ipureintro
          first
            | (exact ⟨fun h => absurd h (by omega), fun _ => rfl⟩)
            | (refine ⟨fun hh => ?_, fun h => absurd (show (i 1).val = 31 from a8) h⟩
               unfold bodyRunB.sl.H4_1_1
               refine (read_stored M4.view zeros2 _ _ _ _).trans ?_
               unfold bodyRunB.sl.v32_1
               refine (readAt_zero M8.view zeros2 _ _).trans ?_
               refine (read_stored M8.view zeros2 _ _ _ _).trans ((shapeCast_id _ _).trans ?_)
               rw [(hX _ _).2, if_neg a4]; exact (slow (v36 := bodyRunB.sl.r_87 c i M2 M3 M6 f2 f3 f6) (v42 := bodyRunB.sl.v42_1 c i M2 M3 M6 f2 f3 f6) (v10 := k0_pay518 i) (cd := bodyRunB.sl.r_86 c i M2 M3 M6 f2 f3 f6) (sc := bodyRunB.sl.r_87 c i M2 M3 M6 f2 f3 f6) (s := (k0_pay519 i (View.readAt (Elt F) M2.view (Rect.unit ![0, 0] S256x32.size inb2).toLoadRect f2) (View.readAt (Elt F) M3.view (Rect.unit ![0, 0] S6272x32.size inb3).toLoadRect f3))) (t := (View.readAt (Elt F) M6.view (Rect.unit ![0, 0] S256x1.size inb6).toLoadRect f6)) (col := k0_pay518 i) (by unfold bodyRunB.sl.r_86; exact rfl) (by unfold bodyRunB.sl.r_87; exact rfl) h6 h7 (by unfold tripW; exact rfl) (by unfold overW; exact rfl) (by exact rfl) (by unfold bodyRunB.sl.r_87; exact rfl) (by exact rfl)).2)
        isplitl [H5]
        · iexists _; isplitl [H5]; · iexact H5
          ipureintro; rw [stp]; dsimp only; rw [if_neg (by omega)]
        isplitl [H6]
        · iexists _; isplitl [H6]; · iexact H6
          ipureintro; rw [stp]; dsimp only; rw [if_neg (by omega)]
        isplitl [H7]
        · iexists _; isplitl [H7]; · iexact H7
          ipureintro; rw [(hX _ _).1]
          first
            | (rw [if_pos a4]; rw [q7, q8] at hf; exact hf.trans (slow (cd := bodyRunB.sl.r c i M2 M3 M6 f2 f3 f6) (sc := bodyRunB.sl.r_1 c i M2 M3 M6 f2 f3 f6) (s := (k0_pay519 i (View.readAt (Elt F) M2.view (Rect.unit ![0, 0] S256x32.size inb2).toLoadRect f2) (View.readAt (Elt F) M3.view (Rect.unit ![0, 0] S6272x32.size inb3).toLoadRect f3))) (t := (View.readAt (Elt F) M6.view (Rect.unit ![0, 0] S256x1.size inb6).toLoadRect f6)) (col := k0_pay518 i) (by unfold bodyRunB.sl.r; exact rfl) (by unfold bodyRunB.sl.r_1; exact rfl) h6 h7 (by unfold tripW; exact rfl) (by unfold overW; exact rfl) (by exact rfl) (by unfold bodyRunB.sl.r_1; exact rfl) (by exact rfl)).1)
            | (have hh : (i 1).val = 31 := a8; rw [if_neg a4]; exact hf.trans (slow (cd := bodyRunB.sl.r_86 c i M2 M3 M6 f2 f3 f6) (sc := bodyRunB.sl.r_87 c i M2 M3 M6 f2 f3 f6) (s := (k0_pay519 i (View.readAt (Elt F) M2.view (Rect.unit ![0, 0] S256x32.size inb2).toLoadRect f2) (View.readAt (Elt F) M3.view (Rect.unit ![0, 0] S6272x32.size inb3).toLoadRect f3))) (t := (View.readAt (Elt F) M6.view (Rect.unit ![0, 0] S256x1.size inb6).toLoadRect f6)) (col := k0_pay518 i) (by unfold bodyRunB.sl.r_86; exact rfl) (by unfold bodyRunB.sl.r_87; exact rfl) h6 h7 (by unfold tripW; exact rfl) (by unfold overW; exact rfl) (by exact rfl) (by unfold bodyRunB.sl.r_87; exact rfl) (by exact rfl)).1)
            | (have hh : (i 1).val ≠ 31 := a8; rw [if_neg a4]; exact hf.trans (slow (cd := bodyRunB.sl.r_172 c i M2 M3 M6 f2 f3 f6) (sc := bodyRunB.sl.r_173 c i M2 M3 M6 f2 f3 f6) (s := (k0_pay519 i (View.readAt (Elt F) M2.view (Rect.unit ![0, 0] S256x32.size inb2).toLoadRect f2) (View.readAt (Elt F) M3.view (Rect.unit ![0, 0] S6272x32.size inb3).toLoadRect f3))) (t := (View.readAt (Elt F) M6.view (Rect.unit ![0, 0] S256x1.size inb6).toLoadRect f6)) (col := k0_pay518 i) (by unfold bodyRunB.sl.r_172; exact rfl) (by unfold bodyRunB.sl.r_173; exact rfl) h6 h7 (by unfold tripW; exact rfl) (by unfold overW; exact rfl) (by exact rfl) (by unfold bodyRunB.sl.r_173; exact rfl) (by exact rfl)).1)
        iexists _; isplitl [H8]; · iexact H8
        ipureintro; rw [(hX _ _).2]
        refine (read_stored M8.view zeros2 _ _ _ _).trans ((shapeCast_id _ _).trans ?_)
        first
          | (rw [if_pos a4, q7, q8]; exact (slow (v36 := bodyRunB.sl.r_1 c i M2 M3 M6 f2 f3 f6) (v42 := bodyRunB.sl.v42 c i M2 M3 M6 f2 f3 f6) (v10 := k0_pay518 i) (cd := bodyRunB.sl.r c i M2 M3 M6 f2 f3 f6) (sc := bodyRunB.sl.r_1 c i M2 M3 M6 f2 f3 f6) (s := (k0_pay519 i (View.readAt (Elt F) M2.view (Rect.unit ![0, 0] S256x32.size inb2).toLoadRect f2) (View.readAt (Elt F) M3.view (Rect.unit ![0, 0] S6272x32.size inb3).toLoadRect f3))) (t := (View.readAt (Elt F) M6.view (Rect.unit ![0, 0] S256x1.size inb6).toLoadRect f6)) (col := k0_pay518 i) (by unfold bodyRunB.sl.r; exact rfl) (by unfold bodyRunB.sl.r_1; exact rfl) h6 h7 (by unfold tripW; exact rfl) (by unfold overW; exact rfl) (by exact rfl) (by unfold bodyRunB.sl.r_1; exact rfl) (by exact rfl)).2)
          | (have hh : (i 1).val = 31 := a8; rw [if_neg a4]; exact (slow (v36 := bodyRunB.sl.r_87 c i M2 M3 M6 f2 f3 f6) (v42 := bodyRunB.sl.v42_1 c i M2 M3 M6 f2 f3 f6) (v10 := k0_pay518 i) (cd := bodyRunB.sl.r_86 c i M2 M3 M6 f2 f3 f6) (sc := bodyRunB.sl.r_87 c i M2 M3 M6 f2 f3 f6) (s := (k0_pay519 i (View.readAt (Elt F) M2.view (Rect.unit ![0, 0] S256x32.size inb2).toLoadRect f2) (View.readAt (Elt F) M3.view (Rect.unit ![0, 0] S6272x32.size inb3).toLoadRect f3))) (t := (View.readAt (Elt F) M6.view (Rect.unit ![0, 0] S256x1.size inb6).toLoadRect f6)) (col := k0_pay518 i) (by unfold bodyRunB.sl.r_86; exact rfl) (by unfold bodyRunB.sl.r_87; exact rfl) h6 h7 (by unfold tripW; exact rfl) (by unfold overW; exact rfl) (by exact rfl) (by unfold bodyRunB.sl.r_87; exact rfl) (by exact rfl)).2)
          | (have hh : (i 1).val ≠ 31 := a8; rw [if_neg a4]; exact (slow (v36 := bodyRunB.sl.r_173 c i M2 M3 M6 f2 f3 f6) (v42 := bodyRunB.sl.v42_2 c i M2 M3 M6 f2 f3 f6) (v10 := k0_pay518 i) (cd := bodyRunB.sl.r_172 c i M2 M3 M6 f2 f3 f6) (sc := bodyRunB.sl.r_173 c i M2 M3 M6 f2 f3 f6) (s := (k0_pay519 i (View.readAt (Elt F) M2.view (Rect.unit ![0, 0] S256x32.size inb2).toLoadRect f2) (View.readAt (Elt F) M3.view (Rect.unit ![0, 0] S6272x32.size inb3).toLoadRect f3))) (t := (View.readAt (Elt F) M6.view (Rect.unit ![0, 0] S256x1.size inb6).toLoadRect f6)) (col := k0_pay518 i) (by unfold bodyRunB.sl.r_172; exact rfl) (by unfold bodyRunB.sl.r_173; exact rfl) h6 h7 (by unfold tripW; exact rfl) (by unfold overW; exact rfl) (by exact rfl) (by unfold bodyRunB.sl.r_173; exact rfl) (by exact rfl)).2)
      · rename_i h6 h7
        sl_exec!
        sl_step
        iapply Hk
        isplitl [H2]; · iexact H2
        isplitl [H3]; · iexact H3
        isplitl [H4]
        · iexists _; isplitl [H4]; · iexact H4
          ipureintro
          first
            | (exact ⟨fun h => absurd h (by omega), fun _ => rfl⟩)
            | (refine ⟨fun hh => ?_, fun h => absurd (show (i 1).val = 31 from a8) h⟩
               unfold bodyRunB.sl.H4_1_2
               refine (read_stored M4.view zeros2 _ _ _ _).trans ?_
               refine (readAt_zero M8.view zeros2 _ _).trans ?_
               rw [(hX _ _).2, if_neg a4, no (cd := bodyRunB.sl.r_86 c i M2 M3 M6 f2 f3 f6) (sc := bodyRunB.sl.r_87 c i M2 M3 M6 f2 f3 f6) (s := (k0_pay519 i (View.readAt (Elt F) M2.view (Rect.unit ![0, 0] S256x32.size inb2).toLoadRect f2) (View.readAt (Elt F) M3.view (Rect.unit ![0, 0] S6272x32.size inb3).toLoadRect f3))) (t := (View.readAt (Elt F) M6.view (Rect.unit ![0, 0] S256x1.size inb6).toLoadRect f6)) (col := k0_pay518 i) (by unfold bodyRunB.sl.r_86; exact rfl) (by unfold bodyRunB.sl.r_87; exact rfl) h6 h7 (by unfold tripW; exact rfl) (by unfold overW; exact rfl)])
        isplitl [H5]
        · iexists _; isplitl [H5]; · iexact H5
          ipureintro; rw [stp]; dsimp only; rw [if_neg (by omega)]
        isplitl [H6]
        · iexists _; isplitl [H6]; · iexact H6
          ipureintro; rw [stp]; dsimp only; rw [if_neg (by omega)]
        isplitl [H7]
        · iexists _; isplitl [H7]; · iexact H7
          ipureintro; rw [(hX _ _).1]
          first
            | (rw [if_pos a4, no (cd := bodyRunB.sl.r c i M2 M3 M6 f2 f3 f6) (sc := bodyRunB.sl.r_1 c i M2 M3 M6 f2 f3 f6) (s := (k0_pay519 i (View.readAt (Elt F) M2.view (Rect.unit ![0, 0] S256x32.size inb2).toLoadRect f2) (View.readAt (Elt F) M3.view (Rect.unit ![0, 0] S6272x32.size inb3).toLoadRect f3))) (t := (View.readAt (Elt F) M6.view (Rect.unit ![0, 0] S256x1.size inb6).toLoadRect f6)) (col := k0_pay518 i) (by unfold bodyRunB.sl.r; exact rfl) (by unfold bodyRunB.sl.r_1; exact rfl) h6 h7 (by unfold tripW; exact rfl) (by unfold overW; exact rfl)]; exact (q7 _))
            | (have hh : (i 1).val = 31 := a8; rw [if_neg a4, no (cd := bodyRunB.sl.r_86 c i M2 M3 M6 f2 f3 f6) (sc := bodyRunB.sl.r_87 c i M2 M3 M6 f2 f3 f6) (s := (k0_pay519 i (View.readAt (Elt F) M2.view (Rect.unit ![0, 0] S256x32.size inb2).toLoadRect f2) (View.readAt (Elt F) M3.view (Rect.unit ![0, 0] S6272x32.size inb3).toLoadRect f3))) (t := (View.readAt (Elt F) M6.view (Rect.unit ![0, 0] S256x1.size inb6).toLoadRect f6)) (col := k0_pay518 i) (by unfold bodyRunB.sl.r_86; exact rfl) (by unfold bodyRunB.sl.r_87; exact rfl) h6 h7 (by unfold tripW; exact rfl) (by unfold overW; exact rfl)])
            | (have hh : (i 1).val ≠ 31 := a8; rw [if_neg a4, no (cd := bodyRunB.sl.r_172 c i M2 M3 M6 f2 f3 f6) (sc := bodyRunB.sl.r_173 c i M2 M3 M6 f2 f3 f6) (s := (k0_pay519 i (View.readAt (Elt F) M2.view (Rect.unit ![0, 0] S256x32.size inb2).toLoadRect f2) (View.readAt (Elt F) M3.view (Rect.unit ![0, 0] S6272x32.size inb3).toLoadRect f3))) (t := (View.readAt (Elt F) M6.view (Rect.unit ![0, 0] S256x1.size inb6).toLoadRect f6)) (col := k0_pay518 i) (by unfold bodyRunB.sl.r_172; exact rfl) (by unfold bodyRunB.sl.r_173; exact rfl) h6 h7 (by unfold tripW; exact rfl) (by unfold overW; exact rfl)])
        iexists _; isplitl [H8]; · iexact H8
        ipureintro; rw [(hX _ _).2]
        first
          | (rw [if_pos a4, no (cd := bodyRunB.sl.r c i M2 M3 M6 f2 f3 f6) (sc := bodyRunB.sl.r_1 c i M2 M3 M6 f2 f3 f6) (s := (k0_pay519 i (View.readAt (Elt F) M2.view (Rect.unit ![0, 0] S256x32.size inb2).toLoadRect f2) (View.readAt (Elt F) M3.view (Rect.unit ![0, 0] S6272x32.size inb3).toLoadRect f3))) (t := (View.readAt (Elt F) M6.view (Rect.unit ![0, 0] S256x1.size inb6).toLoadRect f6)) (col := k0_pay518 i) (by unfold bodyRunB.sl.r; exact rfl) (by unfold bodyRunB.sl.r_1; exact rfl) h6 h7 (by unfold tripW; exact rfl) (by unfold overW; exact rfl)]; exact (q8 _))
          | (have hh : (i 1).val = 31 := a8; rw [if_neg a4, no (cd := bodyRunB.sl.r_86 c i M2 M3 M6 f2 f3 f6) (sc := bodyRunB.sl.r_87 c i M2 M3 M6 f2 f3 f6) (s := (k0_pay519 i (View.readAt (Elt F) M2.view (Rect.unit ![0, 0] S256x32.size inb2).toLoadRect f2) (View.readAt (Elt F) M3.view (Rect.unit ![0, 0] S6272x32.size inb3).toLoadRect f3))) (t := (View.readAt (Elt F) M6.view (Rect.unit ![0, 0] S256x1.size inb6).toLoadRect f6)) (col := k0_pay518 i) (by unfold bodyRunB.sl.r_86; exact rfl) (by unfold bodyRunB.sl.r_87; exact rfl) h6 h7 (by unfold tripW; exact rfl) (by unfold overW; exact rfl)])
          | (have hh : (i 1).val ≠ 31 := a8; rw [if_neg a4, no (cd := bodyRunB.sl.r_172 c i M2 M3 M6 f2 f3 f6) (sc := bodyRunB.sl.r_173 c i M2 M3 M6 f2 f3 f6) (s := (k0_pay519 i (View.readAt (Elt F) M2.view (Rect.unit ![0, 0] S256x32.size inb2).toLoadRect f2) (View.readAt (Elt F) M3.view (Rect.unit ![0, 0] S6272x32.size inb3).toLoadRect f3))) (t := (View.readAt (Elt F) M6.view (Rect.unit ![0, 0] S256x1.size inb6).toLoadRect f6)) (col := k0_pay518 i) (by unfold bodyRunB.sl.r_172; exact rfl) (by unfold bodyRunB.sl.r_173; exact rfl) h6 h7 (by unfold tripW; exact rfl) (by unfold overW; exact rfl)])

end Cert.Proof.KernelIdeal.Val
end
-- ==== Proof.Rank.lean ====
/-
  A list of the 32 best of a finite set of columns, kept in order, and how one more column is put into it.
-/
module

public import Idealize.ShloMosaic.PureOps.Ideal.Laws

@[expose] public section

noncomputable section

namespace Cert.Proof.Rank

open Finset

variable (S : ℕ → EReal)

/-- Column `a` comes before column `b`: its score is larger, or equal and its number less. -/
def bef (a b : ℕ) : Prop := S b < S a ∨ (S a = S b ∧ a < b)

open Classical in
/-- How many columns of `A` come before `a`. -/
def rk (A : Finset ℕ) (a : ℕ) : ℕ := (A.filter (fun b => bef S b a)).card

variable {S}

theorem bef_irrefl (a : ℕ) : ¬ bef S a a := by
  rintro (h | h)
  · exact lt_irrefl _ h
  · exact lt_irrefl _ h.2

theorem bef_trans {a b c : ℕ} (h : bef S a b) (k : bef S b c) : bef S a c := by
  rcases h with h | ⟨h, h'⟩ <;> rcases k with k | ⟨k, k'⟩
  · exact .inl (k.trans h)
  · exact .inl (k ▸ h)
  · exact .inl (h ▸ k)
  · exact .inr ⟨h.trans k, h'.trans k'⟩

theorem bef_total {a b : ℕ} (h : a ≠ b) : bef S a b ∨ bef S b a := by
  rcases lt_trichotomy (S a) (S b) with k | k | k
  · exact .inr (.inl k)
  · rcases lt_or_gt_of_ne h with l | l
    · exact .inl (.inr ⟨k, l⟩)
    · exact .inr (.inr ⟨k.symm, l⟩)
  · exact .inl (.inl k)

theorem rk_lt {A : Finset ℕ} {a b : ℕ} (ha : a ∈ A) (h : bef S a b) : rk S A a < rk S A b := by
  classical
  unfold rk
  refine card_lt_card ?_
  rw [Finset.ssubset_iff_of_subset]
  · exact ⟨a, by simp [ha, h], by simp [bef_irrefl]⟩
  · intro x hx
    simp only [mem_filter] at hx ⊢
    exact ⟨hx.1, bef_trans hx.2 h⟩

theorem rk_inj {A : Finset ℕ} {a b : ℕ} (ha : a ∈ A) (hb : b ∈ A) (h : rk S A a = rk S A b) : a = b := by
  by_contra hn
  rcases bef_total (S := S) hn with k | k
  · exact absurd (rk_lt ha k) (by omega)
  · exact absurd (rk_lt hb k) (by omega)

theorem rk_lt_card {A : Finset ℕ} {a : ℕ} (ha : a ∈ A) : rk S A a < A.card := by
  classical
  unfold rk
  refine card_lt_card ?_
  rw [Finset.ssubset_iff_of_subset (filter_subset _ _)]
  exact ⟨a, ha, by simp [bef_irrefl]⟩

theorem rk_le_card {A : Finset ℕ} {a : ℕ} : rk S A a ≤ A.card := by
  classical
  exact card_le_card (filter_subset _ _)

/-- Every place below the size is somebody's. -/
theorem exists_rk {A : Finset ℕ} {k : ℕ} (h : k < A.card) : ∃ a ∈ A, rk S A a = k := by
  classical
  have hi : A.image (rk S A) = range A.card := by
    refine eq_of_subset_of_card_le ?_ ?_
    · intro x hx
      obtain ⟨a, ha, rfl⟩ := mem_image.1 hx
      exact mem_range.2 (rk_lt_card ha)
    · rw [card_range, card_image_of_injOn fun a ha b hb => rk_inj ha hb]
  have := hi ▸ mem_range.2 h
  simpa using this

variable (S) in
/-- The list holds the 32 best of `A`, in order, and minus infinity behind them. -/
structure Top (A : Finset ℕ) (rv : ℕ → EReal) (ri : ℕ → ℕ) : Prop where
  val : ∀ a ∈ A, rk S A a < 32 → rv (rk S A a) = S a
  idx : ∀ a ∈ A, rk S A a < 32 → ri (rk S A a) = a
  bot : ∀ k, k < 32 → A.card ≤ k → rv k = ⊥

theorem top_empty {rv : ℕ → EReal} {ri : ℕ → ℕ} (h : ∀ k, k < 32 → rv k = ⊥) : Top S ∅ rv ri :=
  ⟨by simp, by simp, fun k hk _ => h k hk⟩

/-- A value kept is at least the new one exactly in the places of the columns before it. -/
theorem Top.le_iff {A : Finset ℕ} {rv : ℕ → EReal} {ri : ℕ → ℕ} (T : Top S A rv ri) {e : ℕ} (he : e ∉ A) (hb : S e ≠ ⊥)
    (hA : ∀ a ∈ A, S a = S e → a < e) {k : ℕ} (hk : k < 32) : S e ≤ rv k ↔ k < rk S A e := by
  by_cases h : k < A.card
  · obtain ⟨a, ha, rfl⟩ := exists_rk (S := S) h
    rw [T.val a ha hk]
    have hne : a ≠ e := fun h => he (h ▸ ha)
    constructor
    · intro hle
      refine rk_lt ha ?_
      rcases hle.lt_or_eq with l | l
      · exact .inl l
      · exact .inr ⟨l.symm, hA a ha l.symm⟩
    · intro hlt
      by_contra hn
      exact absurd (rk_lt (S := S) (A := A) (a := e) (b := a)) (fun _ => by
        have : rk S A e ≤ rk S A a := by
          classical
          unfold rk
          refine card_le_card fun x hx => ?_
          simp only [mem_filter] at hx ⊢
          exact ⟨hx.1, bef_trans hx.2 (.inl (not_le.1 hn))⟩
        omega)
  · rw [T.bot k hk (not_lt.1 h)]
    constructor
    · intro hle
      exact absurd (le_bot_iff.1 hle) hb
    · intro hlt
      exact absurd (lt_of_lt_of_le hlt rk_le_card) h

/-- The list with one more entry. -/
def ins {α : Type} (act : Prop) [Decidable act] (pos : ℕ) (r : ℕ → α) (e : α) (k : ℕ) : α :=
  if act then (if k < pos then r k else if k = pos then e else r (k - 1)) else r k

theorem rk_insert_of_bef {A : Finset ℕ} {e a : ℕ} (he : e ∉ A) (h : bef S e a) : rk S (insert e A) a = rk S A a + 1 := by
  classical
  unfold rk
  rw [filter_insert, if_pos h, card_insert_of_notMem (by simp [he])]

theorem rk_insert_of_not {A : Finset ℕ} {e a : ℕ} (h : ¬ bef S e a) : rk S (insert e A) a = rk S A a := by
  classical
  unfold rk
  rw [filter_insert, if_neg h]

/-- The column after the insertion of `e` at the place its value has. -/
theorem Top.insert {A : Finset ℕ} {rv : ℕ → EReal} {ri : ℕ → ℕ} (T : Top S A rv ri) {e : ℕ} (he : e ∉ A) (hb : S e ≠ ⊥)
    (hA : ∀ a ∈ A, S a = S e → a < e) {act : Prop} [Decidable act] (hact : act ↔ rv 31 < S e) {pos : ℕ}
    (hpos : act → pos = ((range 32).filter fun k => S e ≤ rv k).card) :
    Top S (Insert.insert e A) (ins act pos rv (S e)) (ins act pos ri e) := by
  classical
  have hr31 : act ↔ rk S A e ≤ 31 := by
    rw [hact, ← not_le, T.le_iff he hb hA (by norm_num)]; omega
  have hp : act → pos = rk S A e := by
    intro ha
    rw [hpos ha]
    have h1 : rk S A e ≤ 31 := hr31.1 ha
    have : ((range 32).filter fun k => S e ≤ rv k) = range (rk S A e) := by
      ext k
      simp only [mem_filter, mem_range]
      constructor
      · rintro ⟨hk, hle⟩; exact (T.le_iff he hb hA hk).1 hle
      · intro hk; exact ⟨by omega, (T.le_iff he hb hA (by omega)).2 hk⟩
    rw [this, card_range]
  have key : ∀ {α : Type} (r : ℕ → α) (f : ℕ → α), (∀ a ∈ A, rk S A a < 32 → r (rk S A a) = f a) →
      ∀ a ∈ Insert.insert e A, rk S (Insert.insert e A) a < 32 → ins act pos r (f e) (rk S (Insert.insert e A) a) = f a := by
    intro α r f hf a ha hlt
    rcases Finset.mem_insert.1 ha with rfl | ha
    · rw [rk_insert_of_not (bef_irrefl _)] at hlt ⊢
      have hac := hr31.2 (by omega)
      simp [ins, hac, hp hac]
    · have hne : a ≠ e := fun h => he (h ▸ ha)
      by_cases hbe : bef S e a
      · rw [rk_insert_of_bef he hbe] at hlt ⊢
        have hge : rk S A e ≤ rk S A a := by
          unfold rk
          refine card_le_card fun x hx => ?_
          simp only [mem_filter] at hx ⊢
          exact ⟨hx.1, bef_trans hx.2 hbe⟩
        have hac := hr31.2 (by omega)
        rw [ins, if_pos hac, hp hac, if_neg (by omega), if_neg (by omega), Nat.add_sub_cancel]
        exact hf a ha (by omega)
      · rw [rk_insert_of_not hbe] at hlt ⊢
        have hae : bef S a e := (bef_total hne).resolve_right hbe
        have hl := rk_lt ha hae
        unfold ins
        split
        · rename_i hac
          rw [hp hac, if_pos hl]; exact hf a ha hlt
        · exact hf a ha hlt
  refine ⟨fun a ha h => key rv S T.val a ha h, fun a ha h => key ri id T.idx a ha h, ?_⟩
  intro k hk hc
  rw [card_insert_of_notMem he] at hc
  have hle : rk S A e ≤ A.card := rk_le_card
  unfold ins
  split
  · rename_i hac
    rw [hp hac, if_neg (by omega), if_neg (by omega)]
    exact T.bot _ (by omega) (by omega)
  · exact T.bot k hk (by omega)

end Cert.Proof.Rank
end
-- ==== Proof.Ext.lean ====
/-
  The candidates of a block, taken in order and put into the list one by one.
-/
module

public import proofs.«01_k».proof.Proof.Rank

@[expose] public section

noncomputable section

namespace Cert.Proof.Rank

open Finset

variable {S : ℕ → EReal}

/-- `m` is the largest value of those in `P`, and `c` the least number it stands at. -/
def Next {ι : Type} (K : ι → EReal) (col : ι → ℕ) (P : ι → Prop) (m : EReal) (c : ℕ) : Prop :=
  (∀ j, P j → K j ≤ m) ∧ (m = ⊥ ∨ ∃ j, P j ∧ K j = m ∧ c = col j ∧ ∀ j', P j' → K j' = m → col j ≤ col j')

/-- The places that come after the value `m` at number `c`. -/
def After {ι : Type} (K : ι → EReal) (col : ι → ℕ) (m : EReal) (c : ℕ) (j : ι) : Prop :=
  K j < m ∨ (K j = m ∧ c < col j)

variable (S) in
/-- The values of `K` above minus infinity are the scores of the columns of `C`. -/
structure Rep {ι : Type} (C : Finset ℕ) (K : ι → EReal) (col : ι → ℕ) : Prop where
  mem : ∀ j, K j ≠ ⊥ → col j ∈ C ∧ K j = S (col j)
  ex : ∀ a ∈ C, ∃ j, col j = a ∧ K j = S a
  ne : ∀ a ∈ C, S a ≠ ⊥

variable (S) in
/-- The state of the extraction after `n` steps. -/
def Ex (A C : Finset ℕ) (n : ℕ) (rv : ℕ → EReal) (ri : ℕ → ℕ) (m : EReal) (c : ℕ) : Prop :=
  ∃ D ⊆ C, Top S (A ∪ D) rv ri ∧
    ((D = C ∧ m = ⊥) ∨ (c ∈ C ∧ c ∉ D ∧ m = S c ∧ (∀ a ∈ C, a ∈ D ↔ bef S a c) ∧ n ≤ D.card))

theorem Top.congr {A : Finset ℕ} {rv rv' : ℕ → EReal} {ri ri' : ℕ → ℕ} (T : Top S A rv ri)
    (h : ∀ k, k < 32 → rv' k = rv k) (h' : ∀ k, k < 32 → ri' k = ri k) : Top S A rv' ri' :=
  ⟨fun a ha hk => (h _ hk).trans (T.val a ha hk), fun a ha hk => (h' _ hk).trans (T.idx a ha hk),
    fun k hk hc => (h k hk).trans (T.bot k hk hc)⟩

section
variable {ι : Type} {A C : Finset ℕ} {K : ι → EReal} {col : ι → ℕ} (R : Rep S C K col)
include R

/-- Before the first step. -/
theorem Ex.start {rv : ℕ → EReal} {ri : ℕ → ℕ} (T : Top S A rv ri) {m : EReal} {c : ℕ}
    (N : Next K col (fun _ => True) m c) : Ex S A C 0 rv ri m c := by
  refine ⟨∅, empty_subset _, by simpa using T, ?_⟩
  rcases N.2 with hm | ⟨j, -, hj, hc, hmin⟩
  · left
    refine ⟨?_, hm⟩
    by_contra hne
    obtain ⟨a, ha⟩ := Finset.nonempty_iff_ne_empty.2 (fun h => hne h.symm)
    obtain ⟨j, -, hj⟩ := R.ex a ha
    have := N.1 j trivial
    rw [hm, hj] at this
    exact R.ne a ha (le_bot_iff.1 this)
  · by_cases hb : m = ⊥
    · left
      refine ⟨?_, hb⟩
      by_contra hne
      obtain ⟨a, ha⟩ := Finset.nonempty_iff_ne_empty.2 (fun h => hne h.symm)
      obtain ⟨j, -, hj⟩ := R.ex a ha
      have := N.1 j trivial
      rw [hb, hj] at this
      exact R.ne a ha (le_bot_iff.1 this)
    · right
      obtain ⟨h1, h2⟩ := R.mem j (hj ▸ hb)
      refine ⟨hc ▸ h1, by simp, by rw [← hj, h2, hc], ?_, by simp⟩
      intro a ha
      simp only [notMem_empty, false_iff]
      obtain ⟨j', hj', hK⟩ := R.ex a ha
      have hle := N.1 j' trivial
      rw [hK, ← hj, h2] at hle
      rw [hc]
      rintro (h | ⟨h, hl⟩)
      · exact absurd hle (not_le.2 h)
      · have := hmin j' trivial (by rw [hK, h, ← h2, hj])
        omega

/-- One step. -/
theorem Ex.step {n : ℕ} {rv : ℕ → EReal} {ri : ℕ → ℕ} {m : EReal} {c : ℕ} (E : Ex S A C n rv ri m c)
    (hAC : ∀ a ∈ A, ∀ b ∈ C, a < b) {act : Prop} [Decidable act] (hact : act ↔ rv 31 < m) {pos : ℕ}
    (hpos : pos = ((range 32).filter fun k => m ≤ rv k).card) {m' : EReal} {c' : ℕ}
    (N : Next K col (After K col m c) m' c') :
    Ex S A C (n + 1) (ins act pos rv m) (ins act pos ri c) m' c' := by
  obtain ⟨D, hD, T, h⟩ := E
  rcases h with ⟨hDC, hm⟩ | ⟨hc, hcD, hm, hbef, hn⟩
  · have hna : ¬ act := by rw [hact, hm]; exact not_lt_bot
    refine ⟨D, hD, T.congr (fun k _ => by simp [ins, hna]) (fun k _ => by simp [ins, hna]), .inl ⟨hDC, ?_⟩⟩
    rcases N.2 with h | ⟨j, hj, hK, -⟩
    · exact h
    · rcases hj with h | h
      · rw [hm] at h; exact absurd h not_lt_bot
      · rw [← hK, h.1, hm]
  · have hins : A ∪ insert c D = insert c (A ∪ D) := by
      ext x; simp only [mem_union, mem_insert]; tauto
    have hcA : c ∉ A ∪ D := by
      simp only [mem_union, not_or]
      exact ⟨fun h => lt_irrefl _ (hAC c h c hc), hcD⟩
    have T' : Top S (A ∪ insert c D) (ins act pos rv m) (ins act pos ri c) := by
      rw [hins, hm]
      refine T.insert hcA (R.ne c hc) ?_ (hm ▸ hact) (fun _ => hm ▸ hpos)
      intro a ha hS
      rcases mem_union.1 ha with ha | ha
      · exact hAC a ha c hc
      · rcases (hbef a (hD ha)).1 ha with h | h
        · exact absurd h (by rw [hS]; exact lt_irrefl _)
        · exact h.2
    refine ⟨insert c D, insert_subset hc hD, T', ?_⟩
    have hout : ∀ a ∈ C, a ∉ insert c D → ∃ j, After K col m c j ∧ K j = S a ∧ col j = a := by
      intro a ha hna
      obtain ⟨j, hj, hK⟩ := R.ex a ha
      simp only [mem_insert, not_or] at hna
      have hca : bef S c a := (bef_total hna.1).resolve_left fun h => hna.2 ((hbef a ha).2 h)
      refine ⟨j, ?_, hK, hj⟩
      rcases hca with h | h
      · left; rw [hK, hm]; exact h
      · right; rw [hK, hm, hj]; exact ⟨h.1.symm, h.2⟩
    by_cases hb : m' = ⊥
    · left
      refine ⟨Finset.Subset.antisymm (insert_subset hc hD) fun a ha => ?_, hb⟩
      by_contra hna
      obtain ⟨j, hj, hK, -⟩ := hout a ha hna
      have := N.1 j hj
      rw [hK, hb] at this
      exact R.ne a ha (le_bot_iff.1 this)
    · right
      obtain ⟨j, hj, hK, hcc, hmin⟩ := N.2.resolve_left hb
      obtain ⟨h1, h2⟩ := R.mem j (hK ▸ hb)
      have hcb : bef S c c' := by
        rcases hj with h | h
        · left; rw [hcc, ← h2, ← hm]; exact h
        · right; rw [hcc, ← h2, ← hm]; exact ⟨h.1.symm, h.2⟩
      refine ⟨hcc ▸ h1, ?_, by rw [← hK, h2, hcc], ?_, by rw [card_insert_of_notMem hcD]; omega⟩
      · simp only [mem_insert, not_or]
        refine ⟨fun h => bef_irrefl (S := S) c (h ▸ hcb), fun h => ?_⟩
        exact bef_irrefl (S := S) c (bef_trans hcb ((hbef c' (hD h)).1 h))
      · intro a ha
        constructor
        · intro h
          rcases mem_insert.1 h with rfl | h
          · exact hcb
          · exact bef_trans ((hbef a ha).1 h) hcb
        · intro h
          by_contra hna
          obtain ⟨j', hj', hK', hc'⟩ := hout a ha hna
          have hle := N.1 j' hj'
          have hm' : m' = S c' := by rw [← hK, h2, hcc]
          rw [hK', hm'] at hle
          rcases h with h | h
          · exact absurd hle (not_le.2 h)
          · have := hmin j' hj' (by rw [hK', h.1, hm'])
            omega

end

/-- After as many steps as there are candidates all of them are in. -/
theorem Ex.done {A C : Finset ℕ} {n : ℕ} {rv : ℕ → EReal} {ri : ℕ → ℕ} {m : EReal} {c : ℕ} (E : Ex S A C n rv ri m c)
    (h : C.card ≤ n) : Top S (A ∪ C) rv ri := by
  obtain ⟨D, hD, T, h' | ⟨hc, hcD, -, -, hn⟩⟩ := E
  · rw [← h'.1]; exact T
  · have := card_lt_card ((Finset.ssubset_iff_of_subset hD).2 ⟨c, hc, hcD⟩)
    omega

end Cert.Proof.Rank
end
-- ==== Proof.Rows.lean ====
/-
  The step's vector operations read at one row: reductions, the threshold, the scan of a lane, the extraction.
-/
module

public import proofs.«01_k».proof.Proof.IStep
public import proofs.«01_k».proof.Proof.Ext
public import Idealize.ShloMosaic.PureOps.Ideal.Laws
public import Idealize.ShloMosaic.Lib.Pointwise
public import Idealize.ShloMosaic.Lib.IndicatorCount
public import Idealize.ShloMosaic.Lib.ValueIdx

@[expose] public section

noncomputable section

namespace Cert.Proof.KernelIdeal.Val

open Cert.Proof.KernelIdeal Cert.KernelIdeal Cert.KernelIdeal.Gen
open Cert.Proof.Rank
open Idealize.ShloMosaic

/-- Arrays of 256 rows. -/
abbrev Tn (n : ℕ) : Shape := ⟨2, ![256, n]⟩

theorem ofBits_negInf : (FloatOps.ofBits .f32 0xFF800000#32 : Ideal .f32) = (⊥ : EReal) := by
  show Ideal.ofBits .f32 0xFF800000#32 = ⊥
  simp [Ideal.ofBits, Ideal.ieee]

theorem negInf_apply {T : Shape} (i : T.Idx) : (negInf (F := Ideal) T) i = (⊥ : EReal) := ofBits_negInf

section
variable {n : ℕ} (hr : (Tn n).Reduces [1] S256)

/-- The maximum of a row. -/
theorem rowMax_apply (v : FVec Ideal (Tn n) .f32) (q : Fin 256) :
    rowMax hr v (ix2 q 0) = Finset.univ.sup (fun k : Fin n => (v (ix2 q k) : EReal)) := by
  unfold rowMax
  simp only [pointwise]
  exact congrArg (fun b => Finset.fold max b (fun k : Fin n => (v (ix2 q k) : EReal)) Finset.univ) ofBits_negInf

theorem le_rowMax (v : FVec Ideal (Tn n) .f32) (q : Fin 256) (k : Fin n) : (v (ix2 q k) : EReal) ≤ rowMax hr v (ix2 q 0) := by
  rw [rowMax_apply]
  exact Finset.le_sup (f := fun k : Fin n => (v (ix2 q k) : EReal)) (Finset.mem_univ k)

theorem rowMax_mem (v : FVec Ideal (Tn n) .f32) (q : Fin 256) :
    rowMax hr v (ix2 q 0) = (⊥ : EReal) ∨ ∃ k, v (ix2 q k) = rowMax hr v (ix2 q 0) := by
  rw [rowMax_apply]
  rcases (Finset.univ : Finset (Fin n)).eq_empty_or_nonempty with h | h
  · left; rw [h]; rfl
  · obtain ⟨k, -, hk⟩ := Finset.exists_mem_eq_sup _ h (fun k : Fin n => (v (ix2 q k) : EReal))
    exact .inr ⟨k, hk.symm⟩

theorem minsi_cases (a b : BitVec 32) : (IntOp.minsi a b = a ∨ IntOp.minsi a b = b) ∧ (IntOp.minsi a b).toInt ≤ a.toInt ∧ (IntOp.minsi a b).toInt ≤ b.toInt := by
  simp only [IntOp.minsi, BitVec.slt, decide_eq_true_eq]
  split_ifs with h
  · exact ⟨.inl rfl, le_refl _, by omega⟩
  · exact ⟨.inr rfl, by omega, le_refl _⟩

theorem fold_minsi {ι : Type} (s : Finset ι) (b : BitVec 32) (f : ι → BitVec 32) :
    (s.fold IntOp.minsi b f = b ∨ ∃ i ∈ s, s.fold IntOp.minsi b f = f i) ∧ ∀ i ∈ s, (s.fold IntOp.minsi b f).toInt ≤ (f i).toInt := by
  classical
  induction s using Finset.induction_on with
  | empty => simp
  | insert a s ha ih =>
    rw [Finset.fold_insert ha]
    obtain ⟨h1, h2, h3⟩ := minsi_cases (f a) (s.fold IntOp.minsi b f)
    refine ⟨?_, ?_⟩
    · rcases h1 with h | h
      · exact .inr ⟨a, Finset.mem_insert_self _ _, h⟩
      · rw [h]
        rcases ih.1 with k | ⟨i, hi, k⟩
        · exact .inl k
        · exact .inr ⟨i, Finset.mem_insert_of_mem hi, k⟩
    · intro i hi
      rcases Finset.mem_insert.1 hi with rfl | hi
      · exact h2
      · exact h3.trans (ih.2 i hi)

/-- The least of a row. -/
theorem rowMin_apply (v : IVec (Tn n) 32) (q : Fin 256) :
    rowMin hr v (ix2 q 0) = Finset.univ.fold IntOp.minsi 2147483647#32 (fun k : Fin n => v (ix2 q k)) := by
  unfold rowMin
  simp only [pointwise]

/-- The least of the numbers marked, where some number is. -/
theorem rowMin_spec (p : IVec (Tn n) 1) (col : IVec (Tn n) 32) (q : Fin 256) (hc : ∀ k, (col (ix2 q k)).toNat < 2 ^ 30)
    (hex : ∃ k, p (ix2 q k) = 1#1) :
    ∃ k, p (ix2 q k) = 1#1 ∧ rowMin hr (select p col (broadcast (Tn n) bigI)) (ix2 q 0) = col (ix2 q k)
      ∧ ∀ k', p (ix2 q k') = 1#1 → (col (ix2 q k)).toNat ≤ (col (ix2 q k')).toNat := by
  obtain ⟨k0, hk0⟩ := hex
  rw [rowMin_apply]
  obtain ⟨h1, h2⟩ := fold_minsi (Finset.univ : Finset (Fin n)) 2147483647#32 (fun k => select p col (broadcast (Tn n) bigI) (ix2 q k))
  have hsel : ∀ k, p (ix2 q k) = 1#1 → select p col (broadcast (Tn n) bigI) (ix2 q k) = col (ix2 q k) := by
    intro k hk
    show Scalar.select (p (ix2 q k)) _ _ = _
    rw [hk]; rfl
  have hsel' : ∀ k, ¬ p (ix2 q k) = 1#1 → select p col (broadcast (Tn n) bigI) (ix2 q k) = bigI := by
    intro k hk
    show Scalar.select (p (ix2 q k)) _ _ = _
    have : p (ix2 q k) = 0#1 := by
      have := (p (ix2 q k)).isLt
      apply BitVec.eq_of_toNat_eq
      have h' : (p (ix2 q k)).toNat ≠ 1 := fun h => hk (BitVec.eq_of_toNat_eq h)
      show _ = 0
      omega
    rw [this]; rfl
  have hti : ∀ k, (col (ix2 q k)).toInt = ((col (ix2 q k)).toNat : ℤ) := fun k => by
    have := hc k; rw [BitVec.toInt_eq_toNat_cond]; split <;> omega
  have hk0' := h2 k0 (Finset.mem_univ _)
  simp only [hsel k0 hk0] at hk0'
  rw [hti] at hk0'
  have hlt := hc k0
  rcases h1 with h | ⟨k, -, h⟩
  · rw [h] at hk0'
    have : (2147483647#32 : BitVec 32).toInt = 2147483647 := by decide
    omega
  · by_cases hk : p (ix2 q k) = 1#1
    · refine ⟨k, hk, by rw [h, hsel k hk], fun k' hk' => ?_⟩
      have := h2 k' (Finset.mem_univ _)
      rw [h] at this
      simp only [hsel k hk, hsel k' hk'] at this
      rw [hti, hti] at this
      omega
    · rw [h] at hk0'
      simp only [hsel' k hk] at hk0'
      have : (bigI : BitVec 32).toInt = 1073741824 := by decide
      omega

end

theorem cmp_one (p : Bool) : BitVec.ofBool p = 1#1 ↔ p = true := by cases p <;> decide

/-- The list of a row, and beyond its end. -/
def rowV (a : Vec Ideal S256x32 .f32) (q : Fin 256) (k : ℕ) : EReal := if h : k < 32 then a (ix2 q ⟨k, h⟩) else ⊥
def rowI (a : Vec Ideal S256x32 .i32) (q : Fin 256) (k : ℕ) : ℕ := if h : k < 32 then BitVec.toNat (w := 32) (a (ix2 q ⟨k, h⟩)) else 0

theorem bc_apply {α : Type} {n : ℕ} (hb : S256x1.Broadcasts (Tn n)) (m : S256x1.Idx → α) (q : Fin 256) (k : Fin n) :
    broadcastTo (Tn n) m hb (ix2 q k) = m (ix2 q 0) := by
  simp only [pointwise]
  rfl

theorem card_fin_filter {n : ℕ} (p : Fin n → Prop) (p' : ℕ → Prop) [DecidablePred p] [DecidablePred p'] (h : ∀ k : Fin n, p k ↔ p' k.val) :
    (Finset.univ.filter p).card = ((Finset.range n).filter p').card := by
  refine Finset.card_bij (fun k _ => k.val) ?_ ?_ ?_
  · intro k hk
    simp only [Finset.mem_filter, Finset.mem_univ, true_and] at hk
    simp only [Finset.mem_filter, Finset.mem_range]
    exact ⟨k.isLt, (h k).1 hk⟩
  · intro a _ b _ hab; exact Fin.ext hab
  · intro b hb
    simp only [Finset.mem_filter, Finset.mem_range] at hb
    exact ⟨⟨b, hb.1⟩, by simp only [Finset.mem_filter, Finset.mem_univ, true_and]; exact (h ⟨b, hb.1⟩).2 hb.2, rfl⟩

theorem rowV_of (a : Vec Ideal S256x32 .f32) (q : Fin 256) (k : Fin 32) : rowV a q k.val = a (ix2 q k) := by
  unfold rowV; rw [dif_pos k.isLt]
theorem rowI_of (a : Vec Ideal S256x32 .i32) (q : Fin 256) (k : Fin 32) : rowI a q k.val = BitVec.toNat (w := 32) (a (ix2 q k)) := by
  unfold rowI; rw [dif_pos k.isLt]

theorem place_apply (rv : FVec Ideal S256x32 .f32) (m : FVec Ideal S256x1 .f32) (q : Fin 256) :
    place rv m (ix2 q 0) = BitVec.ofNat 32 ((Finset.range 32).filter fun k => (m (ix2 q 0) : EReal) ≤ rowV rv q k).card := by
  unfold place
  simp only [pointwise]
  refine (IndicatorCount.fold_addi_setWidth_eq_card (w := 32) (fun k : Fin 32 => BitVec.ofBool (decide ((m (ix2 q 0) : EReal) ≤ rv (ix2 q k)))) Finset.univ).trans ?_
  congr 1
  refine card_fin_filter _ _ fun k => ?_
  rw [cmp_one, decide_eq_true_eq, rowV_of]

theorem or_one : ∀ a b : BitVec 1, IntOp.ori a b = 1#1 ↔ a = 1#1 ∨ b = 1#1 := by decide
theorem and_one : ∀ a b : BitVec 1, IntOp.andi a b = 1#1 ↔ a = 1#1 ∧ b = 1#1 := by decide

theorem toInt_small {a : BitVec 32} (h : a.toNat < 2 ^ 31) : a.toInt = (a.toNat : ℤ) := by
  rw [BitVec.toInt_eq_toNat_cond]; split <;> omega

theorem sgt_one {a b : BitVec 32} (ha : a.toNat < 2 ^ 31) (hb : b.toNat < 2 ^ 31) : IntOp.cmpi .sgt a b = 1#1 ↔ b.toNat < a.toNat := by
  show BitVec.ofBool (b.slt a) = 1#1 ↔ _
  rw [cmp_one, BitVec.slt, decide_eq_true_eq, toInt_small ha, toInt_small hb]
  omega

theorem slt_one {a b : BitVec 32} (ha : a.toNat < 2 ^ 31) (hb : b.toNat < 2 ^ 31) : IntOp.cmpi .slt a b = 1#1 ↔ a.toNat < b.toNat := by
  show BitVec.ofBool (a.slt b) = 1#1 ↔ _
  rw [cmp_one, BitVec.slt, decide_eq_true_eq, toInt_small ha, toInt_small hb]
  omega

theorem eq_one {a b : BitVec 32} : IntOp.cmpi .eq a b = 1#1 ↔ a.toNat = b.toNat := by
  show BitVec.ofBool (a == b) = 1#1 ↔ _
  rw [cmp_one, beq_iff_eq, BitVec.toNat_inj]

theorem select_if {α : Type} (c : BitVec 1) (x y : α) : Scalar.select c x y = if c = 1#1 then x else y := by
  by_cases h : c = 1#1
  · rw [if_pos h, h]; rfl
  · rw [if_neg h]
    have : c = 0#1 := by
      have := c.isLt
      apply BitVec.eq_of_toNat_eq
      have h' : c.toNat ≠ 1 := fun h' => h (BitVec.eq_of_toNat_eq h')
      show _ = 0
      omega
    rw [this]; rfl

theorem lane_apply (q : Fin 256) (k : Fin 32) : laneNo (ix2 q k) = BitVec.ofNat 32 k.val := by
  simp only [pointwise]
  show BitVec.ofNat 32 (0 * 32 + k.val) = _
  rw [Nat.zero_mul, Nat.zero_add]

theorem shift_apply {α : Type} (r : S256x32.Idx → α) (q : Fin 256) (k : Fin 32) (f : ℕ → α) (hf : ∀ k : Fin 32, r (ix2 q k) = f k.val) :
    concatenate S256x32 1 [⟨S256x1, extractStridedSlice S256x1 ![0, 0] r slices_S256x32_o0_0_S256x1⟩,
          ⟨S256x31, extractStridedSlice S256x31 ![0, 0] r slices_S256x32_o0_0_S256x31⟩] concatenates_S256x1_S256x31_S256x32_d1 (ix2 q k) = f (k.val - 1) := by
  simp only [pointwise]
  split
  · rename_i h
    have : k.val - 1 = 0 := by omega
    rw [this]
    refine Eq.trans ?_ (hf 0)
    congr 1
    exact congrArg (fun a => ix2 a _) (Fin.ext (Nat.zero_add _))
  · rename_i h
    refine Eq.trans ?_ (hf ⟨k.val - 1, by omega⟩)
    congr 1
    exact congrArg₂ ix2 (Fin.ext (Nat.zero_add _)) (Fin.ext (by simp))

/-- The list of a row with one more entry, at an index. -/
theorem insertAt_apply {α : Type} (pos : IVec S256x1 32) (act : IVec S256x1 1) (r : S256x32.Idx → α) (e : S256x1.Idx → α) (q : Fin 256)
    {p : ℕ} (hp : pos (ix2 q 0) = BitVec.ofNat 32 p) (hp' : p ≤ 32) (f : ℕ → α) (hf : ∀ k : Fin 32, r (ix2 q k) = f k.val) (k : Fin 32) :
    insertAt laneNo pos act r e (ix2 q k) = ins (act (ix2 q 0) = 1#1) p f (e (ix2 q 0)) k.val := by
  have hb1 : ∀ {β : Type} (v : S256x1.Idx → β), broadcastTo S256x32 (shapeCast S256x1 v shapeCasts_S256x1_S256x1) broadcasts_S256x1_S256x32 (ix2 q k) = v (ix2 q 0) := by
    intro β v
    simp only [pointwise]
    rfl
  have hb2 : broadcastTo S256x32 pos broadcasts_S256x1_S256x32 (ix2 q k) = BitVec.ofNat 32 p := (bc_apply _ pos q k).trans hp
  show Scalar.select (broadcastTo S256x32 (shapeCast S256x1 act shapeCasts_S256x1_S256x1) broadcasts_S256x1_S256x32 (ix2 q k))
    (Scalar.select (IntOp.cmpi .slt (laneNo (ix2 q k)) (broadcastTo S256x32 pos broadcasts_S256x1_S256x32 (ix2 q k))) (r (ix2 q k))
      (Scalar.select (IntOp.cmpi .eq (laneNo (ix2 q k)) (broadcastTo S256x32 pos broadcasts_S256x1_S256x32 (ix2 q k)))
        (broadcastTo S256x32 (shapeCast S256x1 e shapeCasts_S256x1_S256x1) broadcasts_S256x1_S256x32 (ix2 q k))
        (concatenate S256x32 1 [⟨S256x1, extractStridedSlice S256x1 ![0, 0] r slices_S256x32_o0_0_S256x1⟩,
          ⟨S256x31, extractStridedSlice S256x31 ![0, 0] r slices_S256x32_o0_0_S256x31⟩] concatenates_S256x1_S256x31_S256x32_d1 (ix2 q k)))) (r (ix2 q k)) = _
  have hk := k.isLt
  have h1 : (BitVec.ofNat 32 k.val).toNat = k.val := by rw [BitVec.toNat_ofNat]; omega
  have h2 : (BitVec.ofNat 32 p).toNat = p := by rw [BitVec.toNat_ofNat]; omega
  rw [hb1, hb1, hb2, lane_apply, shift_apply r q k f hf, hf]
  simp only [select_if]
  unfold ins
  refine if_congr Iff.rfl (if_congr ?_ rfl (if_congr ?_ rfl rfl)) rfl
  · rw [slt_one (by omega) (by omega), h1, h2]
  · rw [eq_one, h1, h2]

theorem later_apply {n : ℕ} (hb : S256x1.Broadcasts (Tn n)) (K : FVec Ideal (Tn n) .f32) (col : IVec (Tn n) 32)
    (m : FVec Ideal S256x1 .f32) (c : IVec S256x1 32) (q : Fin 256) (k : Fin n) (h1 : (col (ix2 q k)).toNat < 2 ^ 30)
    (h2 : (c (ix2 q 0)).toNat < 2 ^ 31) :
    later hb K col m c (ix2 q k) = 1#1 ↔ After (fun k : Fin n => (K (ix2 q k) : EReal)) (fun k => (col (ix2 q k)).toNat) (m (ix2 q 0)) (c (ix2 q 0)).toNat k := by
  unfold later After
  simp only [pointwise]
  show IntOp.ori (BitVec.ofBool (decide ((K (ix2 q k) : EReal) < m (ix2 q 0)))) (IntOp.andi (BitVec.ofBool (decide ((K (ix2 q k) : EReal) = m (ix2 q 0))))
    (IntOp.cmpi .sgt (col (ix2 q k)) (c (ix2 q 0)))) = 1#1 ↔ _
  rw [or_one, and_one, cmp_one, cmp_one, decide_eq_true_eq, decide_eq_true_eq, sgt_one (by omega) h2]

section Step
variable {n : ℕ} {d : List (Fin (Tn n).rank)} (hb : S256x1.Broadcasts (Tn n)) (hr : (Tn n).Reduces [1] S256)
  (K : FVec Ideal (Tn n) .f32) (col : IVec (Tn n) 32) (q : Fin 256) (hcol : ∀ k, (col (ix2 q k)).toNat < 2 ^ 30)

theorem rest_apply (m : FVec Ideal S256x1 .f32) (c : IVec S256x1 32) (k : Fin n) :
    rest hb K col m c (ix2 q k) = if later hb K col m c (ix2 q k) = 1#1 then (K (ix2 q k) : EReal) else ⊥ := by
  show Scalar.select _ _ (negInf (Tn n) (ix2 q k)) = _
  rw [select_if, negInf_apply]

include hcol in
theorem rowMin_lt (p : IVec (Tn n) 1) : (rowMin hr (select p col (broadcast (Tn n) bigI)) (ix2 q 0)).toNat < 2 ^ 31 := by
  rw [rowMin_apply]
  rcases (fold_minsi (Finset.univ : Finset (Fin n)) 2147483647#32 (fun k => select p col (broadcast (Tn n) bigI) (ix2 q k))).1 with h | ⟨k, -, h⟩
  · rw [h]; decide
  · rw [h]
    show (Scalar.select _ _ bigI).toNat < _
    rw [select_if]
    split
    · have := hcol k; omega
    · decide

include hcol in
/-- The largest of those marked, and the least column it stands at. -/
theorem next_of (p : IVec (Tn n) 1) (K' : FVec Ideal (Tn n) .f32) (P : Fin n → Prop) (hP : ∀ k, P k → (K' (ix2 q k) : EReal) = K (ix2 q k))
    (hN : ∀ k, ¬ P k → (K' (ix2 q k) : EReal) = ⊥)
    (hp : ∀ k, p (ix2 q k) = 1#1 ↔ (K' (ix2 q k) : EReal) = rowMax hr K' (ix2 q 0) ∧ P k) :
    Next (fun k : Fin n => (K (ix2 q k) : EReal)) (fun k => (col (ix2 q k)).toNat) P (rowMax hr K' (ix2 q 0))
      (rowMin hr (select p col (broadcast (Tn n) bigI)) (ix2 q 0)).toNat := by
  refine ⟨fun k hk => ?_, ?_⟩
  · have := le_rowMax hr K' q k
    rw [hP k hk] at this
    exact this
  · by_cases hbot : (rowMax hr K' (ix2 q 0) : EReal) = ⊥
    · exact .inl hbot
    · right
      obtain ⟨k, hk⟩ := (rowMax_mem hr K' q).resolve_left hbot
      have hPk : P k := by
        by_contra h
        exact hbot (hk.symm.trans (hN k h))
      obtain ⟨k', h1, h2, h3⟩ := rowMin_spec hr p col q hcol ⟨k, (hp k).2 ⟨hk, hPk⟩⟩
      have h1' := (hp k').1 h1
      refine ⟨k', h1'.2, (hP k' h1'.2).symm.trans h1'.1, by rw [h2], fun j hj hKj => h3 j ((hp j).2 ⟨(hP j hj).trans hKj, hj⟩)⟩

variable {S : ℕ → EReal} {A C : Finset ℕ}

theorem Ex_congr {m : EReal} {c n : ℕ} {rv rv' : ℕ → EReal} {ri ri' : ℕ → ℕ} (E : Ex S A C n rv ri m c)
    (h : ∀ k, k < 32 → rv' k = rv k) (h' : ∀ k, k < 32 → ri' k = ri k) : Ex S A C n rv' ri' m c := by
  obtain ⟨D, h1, h2, h3⟩ := E
  exact ⟨D, h1, h2.congr h h', h3⟩

/-- The state of an extraction, at a row. -/
def RowEx (q : Fin 256) (S : ℕ → EReal) (A C : Finset ℕ) (t : ℕ) (a : Car Ideal) : Prop :=
  Ex S A C t (rowV a.1 q) (rowI a.2.1 q) (a.2.2.1 (ix2 q 0)) (BitVec.toNat (w := 32) (a.2.2.2 (ix2 q 0))) ∧ BitVec.toNat (w := 32) (a.2.2.2 (ix2 q 0)) < 2 ^ 31

include hcol in
theorem RowEx.step (R : Rep S C (fun k : Fin n => (K (ix2 q k) : EReal)) (fun k => (col (ix2 q k)).toNat)) (hAC : ∀ a ∈ A, ∀ b ∈ C, a < b)
    {t : ℕ} {a : Car Ideal} (h : RowEx q S A C t a) : RowEx q S A C (t + 1) (exStep hb hr laneNo K col a) := by
  obtain ⟨rv, ri, m, c⟩ := a
  obtain ⟨E, hc⟩ := h
  dsimp only at E hc
  refine ⟨?_, rowMin_lt hr col q hcol _⟩
  have hl : ∀ k, later hb K col m c (ix2 q k) = 1#1 ↔ After (fun k : Fin n => (K (ix2 q k) : EReal)) (fun k => (col (ix2 q k)).toNat) (m (ix2 q 0)) (c (ix2 q 0)).toNat k :=
    fun k => later_apply hb K col m c q k (hcol k) hc
  have N := next_of hr K col q hcol (andi (cmpf .oeq (rest hb K col m c) (broadcastTo (Tn n) (rowMax hr (rest hb K col m c)) hb)) (later hb K col m c))
    (rest hb K col m c) (After (fun k : Fin n => (K (ix2 q k) : EReal)) (fun k => (col (ix2 q k)).toNat) (m (ix2 q 0)) (c (ix2 q 0)).toNat)
    (fun k hk => by rw [rest_apply, if_pos ((hl k).2 hk)]) (fun k hk => by rw [rest_apply, if_neg (fun h => hk ((hl k).1 h))])
    (fun k => by
      show IntOp.andi (BitVec.ofBool (decide ((rest hb K col m c (ix2 q k) : EReal) = broadcastTo (Tn n) (rowMax hr (rest hb K col m c)) hb (ix2 q k)))) (later hb K col m c (ix2 q k)) = 1#1 ↔ _
      rw [and_one, cmp_one, decide_eq_true_eq, hl, bc_apply])
  obtain ⟨p, hpe, hpos⟩ : ∃ p, p = ((Finset.range 32).filter fun k => (m (ix2 q 0) : EReal) ≤ rowV rv q k).card ∧ place rv m (ix2 q 0) = BitVec.ofNat 32 p :=
    ⟨_, rfl, place_apply rv m q⟩
  have hp32 : p ≤ 32 := by
    rw [hpe]
    simpa using Finset.card_filter_le (Finset.range 32) (fun k => (m (ix2 q 0) : EReal) ≤ rowV rv q k)
  have hact : (cmpf .ogt m (extractStridedSlice S256x1 ![0, 31] rv slices_S256x32_o0_31_S256x1)) (ix2 q 0) = 1#1 ↔ rowV rv q 31 < (m (ix2 q 0) : EReal) := by
    have e : extractStridedSlice S256x1 ![0, 31] rv slices_S256x32_o0_31_S256x1 (ix2 q 0) = rv (ix2 q 31) := by
      simp only [pointwise]
      exact congrArg rv (congrArg₂ ix2 (Fin.ext (Nat.zero_add _)) rfl)
    show BitVec.ofBool (decide ((extractStridedSlice S256x1 ![0, 31] rv slices_S256x32_o0_31_S256x1 (ix2 q 0) : EReal) < m (ix2 q 0))) = 1#1 ↔ _
    rw [cmp_one, decide_eq_true_eq, e]
    rfl
  have hv : ∀ k : Fin 32, rv (ix2 q k) = rowV rv q k.val := fun k => (rowV_of rv q k).symm
  show Ex S A C (t + 1) (rowV (insertAt laneNo (place rv m) (cmpf .ogt m (extractStridedSlice S256x1 ![0, 31] rv slices_S256x32_o0_31_S256x1)) rv m) q) (rowI (insertAt laneNo (place rv m) (cmpf .ogt m (extractStridedSlice S256x1 ![0, 31] rv slices_S256x32_o0_31_S256x1)) ri c) q) _ _
  generalize hA : (cmpf .ogt m (extractStridedSlice S256x1 ![0, 31] rv slices_S256x32_o0_31_S256x1)) = act at hact ⊢
  generalize hB : place rv m = pos at hpos ⊢
  refine Ex_congr (E.step R hAC hact hpe N) (fun k hk => ?_) (fun k hk => ?_)
  · have := insertAt_apply pos act rv m q hpos hp32 (rowV rv q) hv ⟨k, hk⟩
    exact (rowV_of _ q ⟨k, hk⟩).trans this
  · have := insertAt_apply pos act ri c q hpos hp32
      (fun k => if h : k < 32 then ri (ix2 q ⟨k, h⟩) else 0#32) (fun k => by rw [dif_pos k.isLt]) ⟨k, hk⟩
    refine (rowI_of _ q ⟨k, hk⟩).trans ((congrArg (BitVec.toNat (w := 32)) this).trans ?_)
    have ht : ∀ k, BitVec.toNat (w := 32) (if h : k < 32 then ri (ix2 q ⟨k, h⟩) else 0#32) = rowI ri q k := by
      intro k
      unfold rowI
      split <;> rfl
    unfold ins
    dsimp only
    split
    · split
      · exact (rowI_of ri q ⟨k, hk⟩).symm
      · split
        · rfl
        · exact ht _
    · exact (rowI_of ri q ⟨k, hk⟩).symm

include hcol in
/-- After four steps for every trip all the candidates of a row are in. -/
theorem extract_row (R : Rep S C (fun k : Fin n => (K (ix2 q k) : EReal)) (fun k => (col (ix2 q k)).toNat)) (hAC : ∀ a ∈ A, ∀ b ∈ C, a < b)
    (r : Vec Ideal S256x32 .f32 × Vec Ideal S256x32 .i32) (T : Top S A (rowV r.1 q) (rowI r.2 q)) (t : ℕ) (ht : C.card ≤ 4 * t) :
    Top S (A ∪ C) (rowV (extract hb hr K col t r).1 q) (rowI (extract hb hr K col t r).2.1 q) := by
  have h0 : RowEx q S A C 0 (r.1, r.2, exM hr K, exC hb hr K col) := by
    refine ⟨Ex.start R T (next_of hr K col q hcol _ K (fun _ => True) (fun _ _ => rfl) (fun _ h => absurd trivial h) (fun k => ?_)), rowMin_lt hr col q hcol _⟩
    show BitVec.ofBool (decide ((K (ix2 q k) : EReal) = broadcastTo (Tn n) (rowMax hr K) hb (ix2 q k))) = 1#1 ↔ _
    rw [cmp_one, decide_eq_true_eq, bc_apply, and_true]
  have hi : ∀ s, RowEx q S A C s ((exStep hb hr laneNo K col)^[s] (r.1, r.2, exM hr K, exC hb hr K col)) := by
    intro s
    induction s with
    | zero => exact h0
    | succ s ih => rw [Function.iterate_succ_apply']; exact RowEx.step hb hr K col q hcol R hAC ih
  have := hi (4 * t)
  rw [Function.iterate_mul] at this
  exact this.1.done ht

end Step

end Cert.Proof.KernelIdeal.Val
end
-- ==== Proof.Lane.lean ====
/-
  What the scan keeps of one lane: two of its candidates and a count of them.
-/
module

public import proofs.«01_k».proof.Proof.Ext

@[expose] public section

noncomputable section

namespace Cert.Proof.Rank

open Finset

/-- Two of the candidates `D` of a lane, all of them if there are no more than two. -/
structure LaneOK (S : ℕ → EReal) (D : Finset ℕ) (m1 m2 : EReal) (a1 a2 cl : ℕ) : Prop where
  h1 : m1 ≠ ⊥ → a1 ∈ D ∧ m1 = S a1
  h2 : m2 ≠ ⊥ → a2 ∈ D ∧ m2 = S a2 ∧ a1 ≠ a2
  h12 : m1 = ⊥ → m2 = ⊥
  hc : D.card ≤ cl
  cap : D.card ≤ 2 → ∀ d ∈ D, (m1 ≠ ⊥ ∧ a1 = d) ∨ (m2 ≠ ⊥ ∧ a2 = d)

variable {S : ℕ → EReal} {D : Finset ℕ} {m1 m2 : EReal} {a1 a2 cl : ℕ}

theorem LaneOK.empty {a1 a2 cl : ℕ} : LaneOK S ∅ ⊥ ⊥ a1 a2 cl :=
  ⟨fun h => absurd rfl h, fun h => absurd rfl h, fun _ => rfl, by simp, by simp⟩

theorem LaneOK.skip (h : LaneOK S D m1 m2 a1 a2 cl) {cl' : ℕ} (hl : cl ≤ cl') : LaneOK S D m1 m2 a1 a2 cl' :=
  ⟨h.h1, h.h2, h.h12, h.hc.trans hl, h.cap⟩

theorem LaneOK.two (h : LaneOK S D m1 m2 a1 a2 cl) (hm : m2 ≠ ⊥) : 2 ≤ D.card := by
  have h1 := h.h1 fun k => hm (h.h12 k)
  obtain ⟨h2, -, hne⟩ := h.h2 hm
  rw [← card_pair hne]
  exact card_le_card (by intro x hx; simp only [mem_insert, mem_singleton] at hx; rcases hx with rfl | rfl <;> [exact h1.1; exact h2])

theorem LaneOK.take (h : LaneOK S D m1 m2 a1 a2 cl) {d : ℕ} (hd : d ∉ D) (hv : S d ≠ ⊥) :
    LaneOK S (insert d D) (if m1 < S d then S d else m1) (if m1 < S d then m1 else if m2 < S d then S d else m2)
      (if m1 < S d then d else a1) (if m1 < S d then a1 else if m2 < S d then d else a2) (cl + 1) := by
  have hcard : (insert d D).card = D.card + 1 := card_insert_of_notMem hd
  by_cases h1 : m1 < S d
  · simp only [if_pos h1]
    refine ⟨fun _ => ⟨mem_insert_self _ _, rfl⟩, fun hm => ?_, fun hb => absurd hb hv, by rw [hcard]; have := h.hc; omega, ?_⟩
    · obtain ⟨k1, k2⟩ := h.h1 hm
      exact ⟨mem_insert_of_mem k1, k2, fun e => hd (e ▸ k1)⟩
    · intro hc d' hd'
      rcases mem_insert.1 hd' with rfl | hd'
      · exact .inl ⟨hv, rfl⟩
      · right
        rcases h.cap (by omega) d' hd' with k | k
        · exact k
        · have := h.two k.1
          omega
  · have hm1 : m1 ≠ ⊥ := fun e => hv (le_bot_iff.1 (e ▸ not_lt.1 h1))
    obtain ⟨k1, k2⟩ := h.h1 hm1
    by_cases h2 : m2 < S d
    · simp only [if_neg h1, if_pos h2]
      refine ⟨fun _ => ⟨mem_insert_of_mem k1, k2⟩, fun _ => ⟨mem_insert_self _ _, rfl, fun e => hd (e ▸ k1)⟩, fun hb => absurd hb hm1,
        by rw [hcard]; have := h.hc; omega, ?_⟩
      intro hc d' hd'
      rcases mem_insert.1 hd' with rfl | hd'
      · exact .inr ⟨hv, rfl⟩
      · left
        rcases h.cap (by omega) d' hd' with k | k
        · exact k
        · have := h.two k.1
          omega
    · have hm2 : m2 ≠ ⊥ := fun e => hv (le_bot_iff.1 (e ▸ not_lt.1 h2))
      simp only [if_neg h1, if_neg h2]
      obtain ⟨l1, l2, l3⟩ := h.h2 hm2
      refine ⟨fun _ => ⟨mem_insert_of_mem k1, k2⟩, fun _ => ⟨mem_insert_of_mem l1, l2, l3⟩, fun hb => absurd hb hm1,
        by rw [hcard]; have := h.hc; omega, fun hc => ?_⟩
      have := h.two hm2
      omega

/-- The candidates of a block: the columns whose score reaches the threshold. -/
def cands (S : ℕ → EReal) (T : EReal) (base n : ℕ) : Finset ℕ := by
  classical
  exact (Ico base (base + n)).filter fun a => T ≤ S a ∧ S a ≠ ⊥

theorem mem_cands {T : EReal} {base n a : ℕ} : a ∈ cands S T base n ↔ base ≤ a ∧ a < base + n ∧ T ≤ S a ∧ S a ≠ ⊥ := by
  classical
  unfold cands
  simp only [mem_filter, mem_Ico]
  tauto

/-- The candidates of a lane among the first `k` chunks. -/
def laneD (S : ℕ → EReal) (T : EReal) (base l k : ℕ) : Finset ℕ := (cands S T base (128 * k)).filter fun a => (a - base) % 128 = l

theorem mem_laneD {T : EReal} {base l k a : ℕ} : a ∈ laneD S T base l k ↔ base ≤ a ∧ a < base + 128 * k ∧ T ≤ S a ∧ S a ≠ ⊥ ∧ (a - base) % 128 = l := by
  unfold laneD
  rw [mem_filter, mem_cands]
  tauto

theorem laneD_succ {T : EReal} {base l k : ℕ} (hl : l < 128) (h : T ≤ S (base + (128 * k + l)) ∧ S (base + (128 * k + l)) ≠ ⊥) :
    laneD S T base l (k + 1) = insert (base + (128 * k + l)) (laneD S T base l k) := by
  ext a
  rw [mem_insert, mem_laneD, mem_laneD]
  constructor
  · rintro ⟨p1, p2, p3, p4, p5⟩
    by_cases e : a = base + (128 * k + l)
    · exact .inl e
    · exact .inr ⟨p1, by omega, p3, p4, p5⟩
  · rintro (rfl | ⟨p1, p2, p3, p4, p5⟩)
    · exact ⟨by omega, by omega, h.1, h.2, by omega⟩
    · exact ⟨p1, by omega, p3, p4, p5⟩

theorem laneD_skip {T : EReal} {base l k : ℕ} (hl : l < 128) (h : ¬ (T ≤ S (base + (128 * k + l)) ∧ S (base + (128 * k + l)) ≠ ⊥)) :
    laneD S T base l (k + 1) = laneD S T base l k := by
  ext a
  rw [mem_laneD, mem_laneD]
  constructor
  · rintro ⟨p1, p2, p3, p4, p5⟩
    by_cases e : a = base + (128 * k + l)
    · exact absurd ⟨e ▸ p3, e ▸ p4⟩ h
    · exact ⟨p1, by omega, p3, p4, p5⟩
  · rintro ⟨p1, p2, p3, p4, p5⟩
    exact ⟨p1, by omega, p3, p4, p5⟩

end Cert.Proof.Rank
end
-- ==== Proof.Phase.lean ====
/-
  A step of the second phase, read at one row.
-/
module

public import proofs.«01_k».proof.Proof.Rows
public import proofs.«01_k».proof.Proof.Lane
public import Idealize.ShloMosaic.Lib.MatmulPlain
public import Idealize.ShloMosaic.Lib.Affine

@[expose] public section

noncomputable section

namespace Cert.Proof.KernelIdeal.Val

open Cert.Proof.KernelIdeal Cert.KernelIdeal Cert.KernelIdeal.Gen
open Cert.Proof.Rank
open Idealize.ShloMosaic

/-- Four steps a trip are enough for the trip word. -/
theorem trips_enough (v : BitVec 32) (h0 : 0 < v.toNat) (h : v.toNat ≤ 6272) : v.toNat ≤ 4 * (k0_t1_loop v).trips := by
  have hv : Affine.IsInt v (v.toNat : ℤ) := by
    unfold Affine.IsInt
    exact toInt_small (by omega)
  have hc : ∀ n : ℕ, n < 2 ^ 31 → Affine.IsInt (BitVec.ofNat 32 n) (n : ℤ) := fun n hn => Affine.ofNat n ⟨rfl, hn⟩
  have ha : Affine.IsInt (Scalar.addi v 3#32) ((v.toNat : ℤ) + 3) := Affine.addi hv (hc 3 (by omega)) ⟨rfl, by omega, by omega⟩
  have hd : Affine.IsInt (Scalar.divsi (Scalar.addi v 3#32) 4#32) (((v.toNat : ℤ) + 3) / 4) := Affine.divsi ha (hc 4 (by omega)) ⟨rfl, by omega, by omega⟩
  have hai := ha
  unfold Affine.IsInt at hai
  have h1 : Scalar.cmpi .sgt (Scalar.addi v 3#32) 0#32 = 1#1 := by
    show BitVec.ofBool (BitVec.slt 0#32 _) = 1#1
    rw [cmp_one, BitVec.slt, decide_eq_true_eq, hai]
    show (0 : ℤ) < _
    omega
  have h2 : Scalar.cmpi .slt (Scalar.addi v 3#32) 0#32 = 0#1 := by
    show BitVec.ofBool (BitVec.slt _ 0#32) = 0#1
    have : BitVec.slt (Scalar.addi v 3#32) 0#32 = false := by
      rw [BitVec.slt, decide_eq_false_iff_not, hai]
      show ¬ (_ : ℤ) < 0
      omega
    rw [this]; rfl
  have hub : (k0_t1_loop v).ub = Scalar.addi 0#32 (Scalar.muli (Scalar.divsi (Scalar.subi (Scalar.divsi (Scalar.addi v 3#32) 4#32) 0#32) 1#32) 1#32) := by
    unfold k0_t1_loop
    dsimp only
    rw [h1, h2]
    have e1 : Scalar.cmpi .ne (Scalar.subi (Scalar.extui 1#1 : BitVec 32) (Scalar.extui 0#1)) (Scalar.subi (Scalar.extui (Scalar.cmpi .sgt 4#32 0#32)) (Scalar.extui (Scalar.cmpi .slt 4#32 0#32))) = 0#1 := by decide
    have e2 : ∀ x, Scalar.andi 0#1 x = 0#1 := by decide
    have e3 : ∀ a b : BitVec 32, Scalar.select 0#1 a b = b := fun _ _ => rfl
    rw [e1, e2, e3]
  have hs := Affine.subi hd (hc 0 (by omega)) ⟨rfl, by omega, by omega⟩
  have hq := Affine.divsi hs (hc 1 (by omega)) ⟨rfl, by omega, by omega⟩
  have hm := Affine.muli hq (hc 1 (by omega)) ⟨rfl, by omega, by omega⟩
  have hf := Affine.addi (hc 0 (by omega)) hm ⟨rfl, by omega, by omega⟩
  unfold Affine.IsInt at hf
  have : (k0_t1_loop v).trips = (((k0_t1_loop v).ub.toInt - 0 + 1 - 1) / 1).toNat := rfl
  rw [this, hub]
  have hf' : (Scalar.addi 0#32 (Scalar.muli (Scalar.divsi (Scalar.subi (Scalar.divsi (Scalar.addi v 3#32) 4#32) 0#32) 1#32) 1#32)).toInt = _ := hf
  rw [hf']
  omega

theorem trips_same (v : BitVec 32) : (k0_t3_loop v).trips = (k0_t1_loop v).trips := rfl

theorem fold_maxsi {ι : Type} (s : Finset ι) (b : BitVec 32) (f : ι → BitVec 32) :
    (s.fold IntOp.maxsi b f = b ∨ ∃ i ∈ s, s.fold IntOp.maxsi b f = f i) ∧ ∀ i ∈ s, (f i).toInt ≤ (s.fold IntOp.maxsi b f).toInt := by
  classical
  have mx : ∀ x y : BitVec 32, (IntOp.maxsi x y = x ∨ IntOp.maxsi x y = y) ∧ x.toInt ≤ (IntOp.maxsi x y).toInt ∧ y.toInt ≤ (IntOp.maxsi x y).toInt := by
    intro x y
    unfold IntOp.maxsi
    by_cases h : BitVec.slt y x = true
    · rw [if_pos h]
      rw [BitVec.slt, decide_eq_true_eq] at h
      exact ⟨.inl rfl, le_refl _, h.le⟩
    · rw [if_neg h]
      rw [BitVec.slt, decide_eq_true_eq] at h
      exact ⟨.inr rfl, not_lt.1 h, le_refl _⟩
  induction s using Finset.induction_on with
  | empty => simp
  | insert a s ha ih =>
    rw [Finset.fold_insert ha]
    obtain ⟨h1, h2, h3⟩ := mx (f a) (s.fold IntOp.maxsi b f)
    refine ⟨?_, ?_⟩
    · rcases h1 with h | h
      · exact .inr ⟨a, Finset.mem_insert_self _ _, h⟩
      · rw [h]
        rcases ih.1 with k | ⟨i, hi, k⟩
        · exact .inl k
        · exact .inr ⟨i, Finset.mem_insert_of_mem hi, k⟩
    · intro i hi
      rcases Finset.mem_insert.1 hi with rfl | hi
      · exact h2
      · exact (ih.2 i hi).trans h3

/-- The trip word is at least the number of scores of any row that reach the threshold. -/
theorem tripW_spec (s : FVec Ideal S256x6272 .f32) (t : FVec Ideal S256x1 .f32) :
    (tripW s t).toNat ≤ 6272 ∧ ∀ q : Fin 256, (Finset.univ.filter fun k : Fin 6272 => (t (ix2 q 0) : EReal) ≤ s (ix2 q k)).card ≤ (tripW s t).toNat := by
  have e : tripW s t = Finset.univ.fold IntOp.maxsi 2147483648#32
      (fun q : Fin 256 => BitVec.ofNat 32 (Finset.univ.filter fun k : Fin 6272 => (t (ix2 q 0) : EReal) ≤ s (ix2 q k)).card) := by
    unfold tripW k0_pay149 k0_pay147
    simp only [pointwise]
    refine Finset.fold_congr fun q _ => ?_
    refine (IndicatorCount.fold_addi_setWidth_eq_card (w := 32) (fun k : Fin 6272 => BitVec.ofBool (decide ((t (ix2 q 0) : EReal) ≤ s (ix2 q k)))) Finset.univ).trans ?_
    refine congrArg (fun A : Finset (Fin 6272) => BitVec.ofNat 32 A.card) (Finset.filter_congr fun k _ => ?_)
    rw [cmp_one, decide_eq_true_eq]
  have hle : ∀ q : Fin 256, (Finset.univ.filter fun k : Fin 6272 => (t (ix2 q 0) : EReal) ≤ s (ix2 q k)).card ≤ 6272 := fun q => by
    simpa using Finset.card_filter_le (Finset.univ : Finset (Fin 6272)) (fun k : Fin 6272 => (t (ix2 q 0) : EReal) ≤ s (ix2 q k))
  generalize hf : (fun q : Fin 256 => (Finset.univ.filter fun k : Fin 6272 => (t (ix2 q 0) : EReal) ≤ s (ix2 q k)).card) = f at *
  have hf' : ∀ q, (Finset.univ.filter fun k : Fin 6272 => (t (ix2 q 0) : EReal) ≤ s (ix2 q k)).card = f q := fun q => congrFun hf q
  simp only [hf'] at *
  have hn : ∀ q, (BitVec.ofNat 32 (f q)).toNat = f q := fun q => by rw [BitVec.toNat_ofNat]; have := hle q; omega
  have hi : ∀ q, (BitVec.ofNat 32 (f q)).toInt = f q := fun q => by rw [toInt_small (by rw [hn]; have := hle q; omega), hn]
  obtain ⟨h1, h2⟩ := fold_maxsi (Finset.univ : Finset (Fin 256)) 2147483648#32 (fun q => BitVec.ofNat 32 (f q))
  rw [← e] at h1 h2
  have h0 := h2 0 (Finset.mem_univ _)
  rw [hi] at h0
  rcases h1 with h | ⟨q0, -, h⟩
  · rw [h] at h0
    have : (2147483648#32 : BitVec 32).toInt = -2147483648 := by decide
    omega
  · rw [h, hn]
    refine ⟨hle q0, fun q => ?_⟩
    have := h2 q (Finset.mem_univ _)
    rw [h, hi, hi] at this
    omega

/-- If no lane has overflowed then every lane has at most two candidates. -/
theorem overW_spec (cl : IVec S256x128 32) (h : overW cl = 0#32) (q : Fin 256) (l : Fin 128) (hc : (cl (ix2 q l)).toNat < 2 ^ 31) : (cl (ix2 q l)).toNat ≤ 2 := by
  by_contra hn
  have e : overW cl = Finset.univ.fold IntOp.maxsi 2147483648#32
      (fun k : Fin 256 × Fin 128 => Scalar.select (IntOp.cmpi .sgt (cl (ix2 k.1 k.2)) 2#32) 1#32 0#32) := by
    unfold overW k0_pay525
    simp only [pointwise]
  have := (fold_maxsi (Finset.univ : Finset (Fin 256 × Fin 128)) 2147483648#32
    (fun k : Fin 256 × Fin 128 => Scalar.select (IntOp.cmpi .sgt (cl (ix2 k.1 k.2)) 2#32) 1#32 0#32)).2 (q, l) (Finset.mem_univ _)
  rw [← e, h, select_if, if_pos ((sgt_one hc (by decide)).2 (by show 2 < _; omega))] at this
  exact absurd this (by decide)

theorem chunk_apply {α : Type} (x : S256x6272.Idx → α) (k : ℕ) (h : k < 49) (q : Fin 256) (l : Fin 128) :
    chunk x k h (ix2 q l) = x (ix2 q ⟨128 * k + l.val, by omega⟩) := by
  unfold chunk
  simp only [pointwise]
  exact congrArg x (congrArg₂ ix2 (Fin.ext (Nat.zero_add _)) rfl)

theorem laneK_apply (n : Scan Ideal) (q : Fin 256) (l : Fin 256) : laneK n (ix2 q l) = if h : l.val < 128 then n.m1 (ix2 q ⟨l.val, h⟩) else n.m2 (ix2 q ⟨l.val - 128, by omega⟩) := by
  unfold laneK
  simp only [pointwise]
  split
  · rfl
  · exact congrArg n.m2 (congrArg₂ ix2 (Fin.ext (by simp)) (Fin.ext (by simp)))

theorem laneC_apply (n : Scan Ideal) (q : Fin 256) (l : Fin 256) : laneC n (ix2 q l) = if h : l.val < 128 then n.a1 (ix2 q ⟨l.val, h⟩) else n.a2 (ix2 q ⟨l.val - 128, by omega⟩) := by
  unfold laneC
  simp only [pointwise]
  split
  · rfl
  · exact congrArg n.a2 (congrArg₂ ix2 (Fin.ext (by simp)) (Fin.ext (by simp)))

/-- The block of a step. -/
def blk (j : ℕ) : ℕ := if j < 16 then j else j - 16

theorem pay518_apply (i : grid0.Coords) (q : Fin 256) (k : Fin 6272) : k0_pay518 i (ix2 q k) = BitVec.ofNat 32 (blk (i 1).val * 6272 + k.val) := by
  have hj : (i 1).val < 32 := (i 1).isLt
  unfold k0_pay518
  simp only [pointwise]
  have : ∀ j : Fin 32, (Scalar.muli
        (Scalar.select (Scalar.cmpi CmpIPredicate.slt (BitVec.ofNat 32 j.val) 16#32) (BitVec.ofNat 32 j.val)
          (Scalar.subi (BitVec.ofNat 32 j.val) 16#32)) 6272#32) = BitVec.ofNat 32 (blk j.val * 6272) := by decide
  have e := this ⟨(i 1).val, hj⟩
  dsimp only at e
  rw [e]
  show BitVec.ofNat 32 (blk (i 1).val * 6272) + BitVec.ofNat 32 (0 * 6272 + k.val) = _
  rw [Nat.zero_mul, Nat.zero_add, ← BitVec.ofNat_add]

theorem pay518_toNat (i : grid0.Coords) (q : Fin 256) (k : Fin 6272) : (k0_pay518 i (ix2 q k)).toNat = blk (i 1).val * 6272 + k.val := by
  have hj : (i 1).val < 32 := (i 1).isLt
  have hb : blk (i 1).val < 16 := by unfold blk; split <;> omega
  rw [pay518_apply, BitVec.toNat_ofNat]
  omega

theorem pay519_apply (i : grid0.Coords) (x : Vec Ideal S256x32 .f32) (w : Vec Ideal S6272x32 .f32) (q : Fin 256) (k : Fin 6272) :
    (k0_pay519 i x w (ix2 q k) : EReal) = if blk (i 1).val * 6272 + k.val < 100000 then ∑ c : Fin 32, (x (ix2 q c) : EReal) * w (ix2 k c) else ⊥ := by
  have hj : (i 1).val < 32 := (i 1).isLt
  have hb : blk (i 1).val < 16 := by unfold blk; split <;> omega
  have ht := pay518_toNat i q k
  unfold k0_pay519
  simp only [pointwise]
  rw [select_if]
  refine if_congr ?_ (zero_add _) ofBits_negInf
  rw [slt_one (by omega) (by decide), ht]
  rfl

end Cert.Proof.KernelIdeal.Val
end
-- ==== Proof.Phase2.lean ====
/-
  A step of the second phase at one row: the list kept takes in the block's candidates.
-/
module

public import proofs.«01_k».proof.Proof.Phase

@[expose] public section

noncomputable section

namespace Cert.Proof.KernelIdeal.Val

open Cert.Proof.KernelIdeal Cert.KernelIdeal Cert.KernelIdeal.Gen
open Cert.Proof.Rank
open Idealize.ShloMosaic

open Classical in
theorem sel_ogt {T : Shape} {α : Type} (v m : FVec Ideal T .f32) (x y : T.Idx → α) (i : T.Idx) :
    select (cmpf .ogt v m) x y i = if (m i : EReal) < v i then x i else y i :=
  (select_if (cmpf .ogt v m i) (x i) (y i)).trans (if_congr ((cmp_one _).trans decide_eq_true_iff) rfl rfl)

section
variable (s : FVec Ideal S256x6272 .f32) (t : FVec Ideal S256x1 .f32) (col : IVec S256x6272 32) (q : Fin 256)

theorem cand_apply (k : Fin 6272) : k0_pay147 s t (ix2 q k) = 1#1 ↔ (t (ix2 q 0) : EReal) ≤ s (ix2 q k) := by
  unfold k0_pay147
  simp only [pointwise]
  rw [cmp_one, decide_eq_true_eq]
  rfl

open Classical in
theorem sc_apply (k : Fin 6272) : (k0_pay148 s t (ix2 q k) : EReal) = if (t (ix2 q 0) : EReal) ≤ s (ix2 q k) then (s (ix2 q k) : EReal) else ⊥ := by
  show Scalar.select (k0_pay147 s t (ix2 q k)) (s (ix2 q k)) _ = _
  rw [select_if]
  exact if_congr (cand_apply s t q k) rfl ofBits_negInf

variable {S : ℕ → EReal} {base : ℕ} (hs : ∀ k : Fin 6272, (s (ix2 q k) : EReal) = S (base + k.val))
  (hcol : ∀ k : Fin 6272, (col (ix2 q k)).toNat = base + k.val)
include hs

theorem sc_val (k : Fin 6272) : ((t (ix2 q 0) : EReal) ≤ S (base + k.val) ∧ S (base + k.val) ≠ ⊥ → (k0_pay148 s t (ix2 q k) : EReal) = S (base + k.val))
    ∧ (¬ ((t (ix2 q 0) : EReal) ≤ S (base + k.val) ∧ S (base + k.val) ≠ ⊥) → (k0_pay148 s t (ix2 q k) : EReal) = ⊥) := by
  classical
  rw [sc_apply, hs]
  refine ⟨fun h => if_pos h.1, fun h => ?_⟩
  split
  · rename_i h'
    by_contra hb
    exact h ⟨h', hb⟩
  · rfl

include hcol
/-- The scan of a lane. -/
theorem scan_lane (l : Fin 128) : ∀ (k : ℕ) (hk : k ≤ 49),
    LaneOK S (laneD S (t (ix2 q 0)) base l.val k) ((scan (k0_pay147 s t) (k0_pay148 s t) col k hk).m1 (ix2 q l)) ((scan (k0_pay147 s t) (k0_pay148 s t) col k hk).m2 (ix2 q l))
      ((scan (k0_pay147 s t) (k0_pay148 s t) col k hk).a1 (ix2 q l)).toNat ((scan (k0_pay147 s t) (k0_pay148 s t) col k hk).a2 (ix2 q l)).toNat
      ((scan (k0_pay147 s t) (k0_pay148 s t) col k hk).cl (ix2 q l)).toNat
    ∧ ((scan (k0_pay147 s t) (k0_pay148 s t) col k hk).cl (ix2 q l)).toNat ≤ k := by
  intro k
  induction k with
  | zero =>
    intro hk
    have e : laneD S (t (ix2 q 0)) base l.val 0 = ∅ := by
      ext a
      rw [mem_laneD]
      simp only [Finset.notMem_empty, iff_false]
      omega
    refine ⟨?_, le_refl _⟩
    rw [e]
    have h1 : ((scan (k0_pay147 s t) (k0_pay148 s t) col 0 hk).m1 (ix2 q l) : EReal) = ⊥ := negInf_apply (T := S256x128) (ix2 q l)
    have h2 : ((scan (k0_pay147 s t) (k0_pay148 s t) col 0 hk).m2 (ix2 q l) : EReal) = ⊥ := negInf_apply (T := S256x128) (ix2 q l)
    rw [h1, h2]
    exact LaneOK.empty
  | succ k ih =>
    intro hk
    obtain ⟨L, hc⟩ := ih (Nat.le_of_succ_le hk)
    have hl := l.isLt
    have hb : 128 * k + l.val < 6272 := by omega
    obtain ⟨v1, v2⟩ := sc_val s t q hs ⟨128 * k + l.val, hb⟩
    have hv := chunk_apply (k0_pay148 s t) k (by omega) q l
    have hvc : (chunk col k (by omega) (ix2 q l)).toNat = base + (128 * k + l.val) := (congrArg BitVec.toNat (chunk_apply col k (by omega) q l)).trans (hcol _)
    have hcand := chunk_apply (k0_pay147 s t) k (by omega) q l
    dsimp only at v1 v2
    generalize hP : scan (k0_pay147 s t) (k0_pay148 s t) col k (Nat.le_of_succ_le hk) = P at L hc
    generalize hV : (chunk (k0_pay148 s t) k (by omega) (ix2 q l) : EReal) = v at *
    generalize hVC : chunk col k (by omega) (ix2 q l) = vc at *
    have hcl : ((scan (k0_pay147 s t) (k0_pay148 s t) col (k + 1) hk).cl (ix2 q l)).toNat
        = (P.cl (ix2 q l)).toNat + if (t (ix2 q 0) : EReal) ≤ s (ix2 q ⟨128 * k + l.val, hb⟩) then 1 else 0 := by
      have e : (scan (k0_pay147 s t) (k0_pay148 s t) col (k + 1) hk).cl (ix2 q l) = P.cl (ix2 q l) + BitVec.setWidth 32 (k0_pay147 s t (ix2 q ⟨128 * k + l.val, hb⟩)) := by
        rw [← hP, ← hcand]
        rfl
      rw [e, BitVec.toNat_add]
      by_cases hT : (t (ix2 q 0) : EReal) ≤ s (ix2 q ⟨128 * k + l.val, hb⟩)
      · rw [if_pos hT, (cand_apply s t q _).2 hT]
        have : (BitVec.setWidth 32 1#1).toNat = 1 := by decide
        rw [this]
        omega
      · have h0 : k0_pay147 s t (ix2 q ⟨128 * k + l.val, hb⟩) = 0#1 := by
          rcases BitVec.eq_zero_or_eq_one (k0_pay147 s t (ix2 q ⟨128 * k + l.val, hb⟩)) with h | h
          · exact h
          · exact absurd ((cand_apply s t q _).1 h) hT
        rw [if_neg hT, h0]
        have : (BitVec.setWidth 32 0#1).toNat = 0 := by decide
        rw [this]
        omega
    refine ⟨?_, by rw [hcl]; split <;> omega⟩
    rw [hcl]
    simp only [scan, sel_ogt, hP, hV, hVC]
    rw [hs]
    by_cases hok : (t (ix2 q 0) : EReal) ≤ S (base + (128 * k + l.val)) ∧ S (base + (128 * k + l.val)) ≠ ⊥
    · have hvv : v = S (base + (128 * k + l.val)) := hv.trans (v1 hok)
      rw [laneD_succ hl hok, if_pos hok.1, hvv]
      have := L.take (d := base + (128 * k + l.val)) (by rw [mem_laneD]; omega) hok.2
      simp only [apply_ite BitVec.toNat, hvc]
      exact this
    · have hvv : v = ⊥ := hv.trans (v2 hok)
      rw [laneD_skip hl hok, hvv]
      simp only [not_lt_bot, if_false]
      exact L.skip (Nat.le_add_right _ _)

omit hs in
/-- The scan's columns are columns. -/
theorem scan_cols (hb : base + 6272 ≤ 2 ^ 30) (l : Fin 128) : ∀ (k : ℕ) (hk : k ≤ 49),
    ((scan (k0_pay147 s t) (k0_pay148 s t) col k hk).a1 (ix2 q l)).toNat < 2 ^ 30 ∧ ((scan (k0_pay147 s t) (k0_pay148 s t) col k hk).a2 (ix2 q l)).toNat < 2 ^ 30 := by
  intro k
  induction k with
  | zero => exact fun hk => ⟨by show (0#32 : BitVec 32).toNat < _; decide, by show (0#32 : BitVec 32).toNat < _; decide⟩
  | succ k ih =>
    intro hk
    obtain ⟨h1, h2⟩ := ih (Nat.le_of_succ_le hk)
    have hl := l.isLt
    have hvc : (chunk col k (by omega) (ix2 q l)).toNat = base + (128 * k + l.val) := (congrArg BitVec.toNat (chunk_apply col k (by omega) q l)).trans (hcol _)
    simp only [scan, sel_ogt]
    constructor
    · split
      · omega
      · exact h1
    · split
      · exact h1
      · split
        · omega
        · exact h2

omit hcol in
theorem card_cands_le : (cands S (t (ix2 q 0)) base 6272).card ≤ (tripW s t).toNat := by
  classical
  refine le_trans ?_ ((tripW_spec s t).2 q)
  refine (Finset.card_le_card (t := (Finset.univ.filter fun k : Fin 6272 => (t (ix2 q 0) : EReal) ≤ s (ix2 q k)).image fun k => base + k.val) ?_).trans Finset.card_image_le
  intro a ha
  rw [mem_cands] at ha
  obtain ⟨h1, h2, h3, -⟩ := ha
  refine Finset.mem_image.2 ⟨⟨a - base, by omega⟩, ?_, by show base + (a - base) = a; omega⟩
  rw [Finset.mem_filter]
  refine ⟨Finset.mem_univ _, ?_⟩
  rw [hs]
  show _ ≤ S (base + (a - base))
  rw [show base + (a - base) = a by omega]
  exact h3

theorem rep_slow : Rep S (cands S (t (ix2 q 0)) base 6272) (fun k : Fin 6272 => (k0_pay148 s t (ix2 q k) : EReal)) (fun k => (col (ix2 q k)).toNat) := by
  refine ⟨fun k hk => ?_, fun a ha => ?_, fun a ha => (mem_cands.1 ha).2.2.2⟩
  · obtain ⟨v1, v2⟩ := sc_val s t q hs k
    have hok := not_not.1 fun h => hk (v2 h)
    rw [hcol]
    exact ⟨mem_cands.2 ⟨by omega, by omega, hok.1, hok.2⟩, v1 hok⟩
  · obtain ⟨h1, h2, h3, h4⟩ := mem_cands.1 ha
    have e : base + (a - base) = a := by omega
    obtain ⟨v1, -⟩ := sc_val s t q hs ⟨a - base, by omega⟩
    rw [e] at v1
    refine ⟨⟨a - base, by omega⟩, ?_, v1 ⟨h3, h4⟩⟩
    rw [hcol]
    exact e

theorem rep_fast (ho : overW (scan (k0_pay147 s t) (k0_pay148 s t) col 49 (le_refl _)).cl = 0#32) :
    Rep S (cands S (t (ix2 q 0)) base 6272) (fun k : Fin 256 => (laneK (scan (k0_pay147 s t) (k0_pay148 s t) col 49 (le_refl _)) (ix2 q k) : EReal))
      (fun k => (laneC (scan (k0_pay147 s t) (k0_pay148 s t) col 49 (le_refl _)) (ix2 q k)).toNat) := by
  have hsub : ∀ {l a : ℕ}, a ∈ laneD S (t (ix2 q 0)) base l 49 → a ∈ cands S (t (ix2 q 0)) base 6272 := by
    intro l a ha
    rw [mem_laneD] at ha
    rw [mem_cands]
    exact ⟨ha.1, by omega, ha.2.2.1, ha.2.2.2.1⟩
  have hL := fun l => (scan_lane s t col q hs hcol l 49 (le_refl _))
  generalize scan (k0_pay147 s t) (k0_pay148 s t) col 49 (le_refl _) = n at *
  refine ⟨fun k hk => ?_, fun a ha => ?_, fun a ha => (mem_cands.1 ha).2.2.2⟩
  · rw [laneK_apply] at hk ⊢
    rw [laneC_apply]
    by_cases h : k.val < 128
    · rw [dif_pos h] at hk ⊢
      rw [dif_pos h]
      obtain ⟨p1, p2⟩ := (hL ⟨k.val, h⟩).1.h1 hk
      exact ⟨hsub p1, p2⟩
    · rw [dif_neg h] at hk ⊢
      rw [dif_neg h]
      obtain ⟨p1, p2, -⟩ := (hL ⟨k.val - 128, by omega⟩).1.h2 hk
      exact ⟨hsub p1, p2⟩
  · obtain ⟨h1, h2, h3, h4⟩ := mem_cands.1 ha
    have hl : (a - base) % 128 < 128 := Nat.mod_lt _ (by omega)
    obtain ⟨L, hc⟩ := hL ⟨(a - base) % 128, hl⟩
    have h2' := overW_spec n.cl ho q ⟨(a - base) % 128, hl⟩ (by omega)
    have hmem : a ∈ laneD S (t (ix2 q 0)) base ((a - base) % 128) 49 := mem_laneD.2 ⟨h1, by omega, h3, h4, rfl⟩
    rcases L.cap (L.hc.trans h2') a hmem with ⟨p, e⟩ | ⟨p, e⟩
    · refine ⟨⟨(a - base) % 128, by omega⟩, ?_, ?_⟩
      · rw [laneC_apply, dif_pos hl]; exact e
      · rw [laneK_apply, dif_pos hl]; exact (L.h1 p).2.trans (congrArg S e)
    · refine ⟨⟨(a - base) % 128 + 128, by omega⟩, ?_, ?_⟩
      · rw [laneC_apply, dif_neg (by show ¬ (a - base) % 128 + 128 < 128; omega)]
        refine Eq.trans ?_ e
        exact congrArg (fun l => (n.a2 (ix2 q l)).toNat) (Fin.ext (Nat.add_sub_cancel _ _))
      · rw [laneK_apply, dif_neg (by show ¬ (a - base) % 128 + 128 < 128; omega)]
        refine Eq.trans ?_ ((L.h2 p).2.1.trans (congrArg S e))
        exact congrArg (fun l => (n.m2 (ix2 q l) : EReal)) (Fin.ext (Nat.add_sub_cancel _ _))

omit hs hcol in
theorem ne_ext : ∀ x : BitVec 1, Scalar.cmpi .ne (Scalar.extui x : BitVec 32) 0#32 = x := by decide

omit hs hcol in
theorem cond6_iff (a b : BitVec 32) (ha : a.toNat < 2 ^ 31) : k0_cond6 a b = 1#1 ↔ 0 < a.toNat ∧ b = 0#32 := by
  unfold k0_cond6
  dsimp only
  rw [ne_ext]
  refine (and_one _ _).trans (and_congr ((sgt_one ha (by decide)).trans Iff.rfl) ?_)
  exact eq_one.trans BitVec.toNat_inj

omit hs hcol in
theorem cond7_iff (a b : BitVec 32) (ha : a.toNat < 2 ^ 31) : k0_cond7 a b = 1#1 ↔ 0 < a.toNat ∧ b ≠ 0#32 := by
  unfold k0_cond7
  dsimp only
  rw [ne_ext]
  refine (and_one _ _).trans (and_congr ((sgt_one ha (by decide)).trans Iff.rfl) ?_)
  show BitVec.ofBool (b != 0#32) = 1#1 ↔ _
  rw [cmp_one, bne_iff_ne]

omit hs hcol in
theorem pair_top {A : Finset ℕ} (e : Car Ideal) (h : Top S A (rowV e.1 q) (rowI e.2.1 q)) :
    Top S A (rowV ((e.1, e.2.1) : Vec Ideal S256x32 .f32 × Vec Ideal S256x32 .i32).1 q) (rowI ((e.1, e.2.1) : Vec Ideal S256x32 .f32 × Vec Ideal S256x32 .i32).2 q) := h

/-- What a step makes of a row's list. -/
theorem phase2_row (hb : base + 6272 ≤ 2 ^ 30) (r : Vec Ideal S256x32 .f32 × Vec Ideal S256x32 .i32) {A : Finset ℕ}
    (T : Top S A (rowV r.1 q) (rowI r.2 q)) (hA : ∀ a ∈ A, a < base) :
    Top S (A ∪ cands S (t (ix2 q 0)) base 6272) (rowV (phase2 s col t r).1 q) (rowI (phase2 s col t r).2 q) := by
  have hAC : ∀ a ∈ A, ∀ b ∈ cands S (t (ix2 q 0)) base 6272, a < b := fun a ha b hb' => lt_of_lt_of_le (hA a ha) (mem_cands.1 hb').1
  have htr := (tripW_spec s t).1
  have hcard := card_cands_le s t q hs
  have c6 := cond6_iff (tripW s t) (overW (scan (k0_pay147 s t) (k0_pay148 s t) col 49 (le_refl _)).cl) (by omega)
  have c7 := cond7_iff (tripW s t) (overW (scan (k0_pay147 s t) (k0_pay148 s t) col 49 (le_refl _)).cl) (by omega)
  unfold phase2 phaseOf
  by_cases h6 : k0_cond6 (tripW s t) (overW (scan (k0_pay147 s t) (k0_pay148 s t) col 49 (le_refl _)).cl) = 1#1
  · rw [if_pos h6]
    obtain ⟨p1, p2⟩ := c6.1 h6
    refine pair_top q _ (extract_row broadcasts_S256x1_S256x256 reduces_S256x256_S256 (laneK _) (laneC _) q (fun k => ?_) (rep_fast s t col q hs hcol p2) hAC r T _
      (hcard.trans (trips_enough _ p1 htr)))
    rw [laneC_apply]
    split
    · exact (scan_cols s t col q hcol hb _ 49 (le_refl _)).1
    · exact (scan_cols s t col q hcol hb _ 49 (le_refl _)).2
  · rw [if_neg h6]
    by_cases h7 : k0_cond7 (tripW s t) (overW (scan (k0_pay147 s t) (k0_pay148 s t) col 49 (le_refl _)).cl) = 1#1
    · rw [if_pos h7]
      obtain ⟨p1, p2⟩ := c7.1 h7
      refine pair_top q _ (extract_row broadcasts_S256x1_S256x6272 reduces_S256x6272_S256 (k0_pay148 s t) col q (fun k => by rw [hcol]; omega) (rep_slow s t col q hs hcol) hAC r T _
        (hcard.trans ((trips_enough _ p1 htr).trans (by rw [trips_same]))))
    · rw [if_neg h7]
      have h0 : (tripW s t).toNat = 0 := by
        by_contra hn
        by_cases ho : overW (scan (k0_pay147 s t) (k0_pay148 s t) col 49 (le_refl _)).cl = 0#32
        · exact h6 (c6.2 ⟨by omega, ho⟩)
        · exact h7 (c7.2 ⟨by omega, ho⟩)
      rw [h0] at hcard
      rw [Finset.card_eq_zero.1 (Nat.le_zero.1 hcard), Finset.union_empty]
      exact T

end

end Cert.Proof.KernelIdeal.Val
end
-- ==== Proof.Inv.lean ====
/-
  What the scratch buffers hold of one row between grid steps, kept by every step, and what it comes to after the last.
-/
module

public import proofs.«01_k».proof.Proof.Phase2

@[expose] public section

noncomputable section

namespace Cert.Proof.KernelIdeal.Val

open Cert.Proof.KernelIdeal Cert.KernelIdeal Cert.KernelIdeal.Gen
open Cert.Proof.Rank
open Idealize.ShloMosaic

/-- Each lane's maximum is the score of a column of that lane. -/
def Lanes (S : ℕ → EReal) (L : Fin 128 → EReal) : Prop := ∀ l, L l = ⊥ ∨ ∃ c, c % 128 = l.val ∧ S c = L l

/-- The threshold keeps at least 32 columns. -/
def Good (S : ℕ → EReal) (T : EReal) : Prop := T = ⊥ ∨ ∃ X : Finset ℕ, 32 ≤ X.card ∧ ∀ c ∈ X, T ≤ S c

theorem laneMax_row {S : ℕ → EReal} {base : ℕ} (hb : base % 128 = 0) (s : FVec Ideal S256x6272 .f32) (q : Fin 256)
    (hs : ∀ k : Fin 6272, (s (ix2 q k) : EReal) = S (base + k.val)) (L : FVec Ideal S256x128 .f32) (hL : Lanes S fun l => L (ix2 q l)) :
    ∀ (k : ℕ) (hk : k ≤ 49), Lanes S fun l => laneMax L s k hk (ix2 q l) := by
  intro k
  induction k with
  | zero => exact fun _ => hL
  | succ k ih =>
    intro hk l
    have hl := l.isLt
    have e : (laneMax L s (k + 1) hk (ix2 q l) : EReal) = max (laneMax L s k (Nat.le_of_succ_le hk) (ix2 q l) : EReal) (chunk s k hk (ix2 q l) : EReal) := rfl
    dsimp only
    rw [e]
    rcases max_choice (laneMax L s k (Nat.le_of_succ_le hk) (ix2 q l) : EReal) (chunk s k hk (ix2 q l) : EReal) with h | h
    · rw [h]; exact ih (Nat.le_of_succ_le hk) l
    · rw [h, chunk_apply]
      exact .inr ⟨base + (128 * k + l.val), by omega, (hs ⟨128 * k + l.val, by omega⟩).symm⟩

theorem dropMax_apply (v : FVec Ideal S256x128 .f32) (q : Fin 256) (l : Fin 128) :
    (dropMax v (ix2 q l) : EReal) = if (v (ix2 q l) : EReal) = rowMax reduces_S256x128_S256 v (ix2 q 0) then ⊥ else v (ix2 q l) := by
  have hb := bc_apply (n := 128) broadcasts_S256x1_S256x128 (rowMax reduces_S256x128_S256 v) q l
  have e : dropMax v (ix2 q l) = Scalar.select (cmpf .oeq v (broadcastTo S256x128 (rowMax reduces_S256x128_S256 v) broadcasts_S256x1_S256x128) (ix2 q l)) (negInf S256x128 (ix2 q l)) (v (ix2 q l)) := rfl
  rw [e, select_if]
  refine if_congr ?_ (negInf_apply _) rfl
  refine (cmp_one _).trans (decide_eq_true_iff.trans ?_)
  rw [← hb]

theorem dropN_row (L : FVec Ideal S256x128 .f32) (q : Fin 256) (k : ℕ) :
    ∃ X : Finset (Fin 128), (∀ l, l ∉ X → (dropN L k (ix2 q l) : EReal) = L (ix2 q l))
      ∧ (∀ l ∈ X, (dropN L k (ix2 q l) : EReal) = ⊥ ∧ (rowMax reduces_S256x128_S256 (dropN L k) (ix2 q 0) : EReal) ≤ L (ix2 q l))
      ∧ ((rowMax reduces_S256x128_S256 (dropN L k) (ix2 q 0) : EReal) = ⊥ ∨ k ≤ X.card) := by
  classical
  induction k with
  | zero => exact ⟨∅, fun _ _ => rfl, by simp, .inr (by simp)⟩
  | succ k ih =>
    obtain ⟨X, h1, h2, h3⟩ := ih
    have hd := dropMax_apply (dropN L k) q
    have hd' : ∀ l, (dropN L (k + 1) (ix2 q l) : EReal) = _ := hd
    have hm := rowMax_mem (n := 128) reduces_S256x128_S256 (dropN L k) q
    have hle := le_rowMax (n := 128) reduces_S256x128_S256 (dropN L k) q
    have hm' := rowMax_mem (n := 128) reduces_S256x128_S256 (dropN L (k + 1)) q
    generalize (rowMax reduces_S256x128_S256 (dropN L k) (ix2 q 0)) = M at *
    generalize (rowMax reduces_S256x128_S256 (dropN L (k + 1)) (ix2 q 0)) = M' at *
    have hMM : (M' : EReal) ≤ M := by
      rcases hm' with h | ⟨l, h⟩
      · rw [h]; exact bot_le
      · rw [← h, hd' l]
        split
        · exact bot_le
        · exact hle l
    refine ⟨X ∪ Finset.univ.filter fun l => (dropN L k (ix2 q l) : EReal) = M, fun l hl => ?_, fun l hl => ?_, ?_⟩
    · rw [Finset.mem_union, Finset.mem_filter] at hl
      push Not at hl
      rw [hd', if_neg (hl.2 (Finset.mem_univ _)), h1 l hl.1]
    · rw [hd']
      by_cases hx : l ∈ X
      · refine ⟨?_, hMM.trans (h2 l hx).2⟩
        split
        · rfl
        · exact (h2 l hx).1
      · have hv : (dropN L k (ix2 q l) : EReal) = M := by
          rcases Finset.mem_union.1 hl with h | h
          · exact absurd h hx
          · exact (Finset.mem_filter.1 h).2
        rw [if_pos hv]
        refine ⟨rfl, ?_⟩
        rw [← h1 l hx, hv]
        exact hMM
    · by_cases hbot : (M' : EReal) = ⊥
      · exact .inl hbot
      right
      have hMb : (M : EReal) ≠ ⊥ := fun h => hbot (le_bot_iff.1 (h ▸ hMM))
      have hk := h3.resolve_left hMb
      obtain ⟨l, hl⟩ := hm.resolve_left hMb
      have hx : l ∉ X := fun hx => hMb (hl.symm.trans (h2 l hx).1)
      have hsub : Insert.insert l X ⊆ X ∪ Finset.univ.filter fun l => (dropN L k (ix2 q l) : EReal) = M := by
        intro y hy
        rcases Finset.mem_insert.1 hy with rfl | hy
        · exact Finset.mem_union_right _ (Finset.mem_filter.2 ⟨Finset.mem_univ _, hl⟩)
        · exact Finset.mem_union_left _ hy
      have := Finset.card_le_card hsub
      rw [Finset.card_insert_of_notMem hx] at this
      omega

theorem thresh_row {S : ℕ → EReal} (L : FVec Ideal S256x128 .f32) (q : Fin 256) (hL : Lanes S fun l => L (ix2 q l)) : Good S (thresh L (ix2 q 0)) := by
  classical
  obtain ⟨X, h1, h2, h3⟩ := dropN_row L q 31
  have hm := rowMax_mem (n := 128) reduces_S256x128_S256 (dropN L 31) q
  unfold thresh
  generalize (rowMax reduces_S256x128_S256 (dropN L 31) (ix2 q 0)) = M at *
  by_cases hb : (M : EReal) = ⊥
  · exact .inl hb
  right
  have hk := h3.resolve_left hb
  obtain ⟨l, hl⟩ := hm.resolve_left hb
  have hx : l ∉ X := fun hx => hb (hl.symm.trans (h2 l hx).1)
  have hY : ∀ y ∈ Insert.insert l X, (M : EReal) ≤ L (ix2 q y) := by
    intro y hy
    rcases Finset.mem_insert.1 hy with rfl | hy
    · rw [← h1 y hx, hl]
    · exact (h2 y hy).2
  have hc : ∀ y ∈ Insert.insert l X, ∃ c, c % 128 = y.val ∧ (M : EReal) ≤ S c := by
    intro y hy
    rcases hL y with h | ⟨c, e, h⟩
    · exact absurd (le_bot_iff.1 ((hY y hy).trans_eq h)) hb
    · exact ⟨c, e, (hY y hy).trans_eq h.symm⟩
  choose! f hf using hc
  refine ⟨(Insert.insert l X).image f, ?_, fun c hc => ?_⟩
  · rw [Finset.card_image_of_injOn, Finset.card_insert_of_notMem hx]
    · omega
    · intro y hy z hz e
      have a1 := (hf y hy).1
      have a2 := (hf z hz).1
      rw [e] at a1
      exact Fin.ext (a1.symm.trans a2)
  · obtain ⟨y, hy, rfl⟩ := Finset.mem_image.1 hc
    exact (hf y hy).2

/-- What a row of the scratch buffers holds before step `j` of its tile. -/
structure Inv (S : ℕ → EReal) (j : ℕ) (σ : St Ideal) (q : Fin 256) : Prop where
  lanes : 1 ≤ j → j ≤ 16 → Lanes S fun l => σ.L (ix2 q l)
  good : 16 ≤ j → Good S (σ.t (ix2 q 0))
  top : 17 ≤ j → Top S (cands S (σ.t (ix2 q 0)) 0 ((j - 16) * 6272)) (rowV σ.rv q) (rowI σ.ri q)

theorem inv_zero (S : ℕ → EReal) (σ : St Ideal) (q : Fin 256) : Inv S 0 σ q :=
  ⟨fun h => absurd h (by omega), fun h => absurd h (by omega), fun h => absurd h (by omega)⟩

theorem rowV_negInf (q : Fin 256) (k : ℕ) (hk : k < 32) : rowV (negInf (F := Ideal) S256x32) q k = ⊥ := by
  unfold rowV
  rw [dif_pos hk]
  exact negInf_apply _

theorem cands_zero (S : ℕ → EReal) (T : EReal) : cands S T 0 0 = ∅ := by
  ext a
  rw [mem_cands]
  constructor
  · rintro ⟨-, h, -⟩; omega
  · intro h; exact absurd h (Finset.notMem_empty _)

theorem cands_join (S : ℕ → EReal) (T : EReal) (n d : ℕ) : cands S T 0 n ∪ cands S T n d = cands S T 0 (n + d) := by
  ext a
  rw [Finset.mem_union, mem_cands, mem_cands, mem_cands]
  constructor
  · rintro (⟨h1, h2, h3⟩ | ⟨h1, h2, h3⟩)
    · exact ⟨h1, by omega, h3⟩
    · exact ⟨by omega, by omega, h3⟩
  · rintro ⟨h1, h2, h3⟩
    by_cases h : a < n
    · exact .inl ⟨h1, by omega, h3⟩
    · exact .inr ⟨by omega, by omega, h3⟩

theorem stp_inv {S : ℕ → EReal} (i : grid0.Coords) (x : Vec Ideal S256x32 .f32) (w : Vec Ideal S6272x32 .f32) (σ : St Ideal) (q : Fin 256)
    (hs : ∀ k : Fin 6272, (k0_pay519 i x w (ix2 q k) : EReal) = S (blk (i 1).val * 6272 + k.val)) (h : Inv S (i 1).val σ q) :
    Inv S ((i 1).val + 1) (stp i x w σ) q := by
  have hj : (i 1).val < 32 := (i 1).isLt
  have hcol := pay518_toNat i q
  unfold stp
  generalize k0_pay519 i x w = s at hs ⊢
  generalize k0_pay518 i = col at hcol ⊢
  generalize hP : phase2 s col σ.t (if (i 1).val = 16 then ((negInf (F := Ideal) S256x32, broadcast S256x32 0#32) : Vec Ideal S256x32 .f32 × Vec Ideal S256x32 .i32) else (σ.rv, σ.ri)) = P
  generalize hM : laneMax (if (i 1).val = 0 then negInf (F := Ideal) S256x128 else σ.L) s 49 (le_refl _) = M
  generalize hN : thresh (laneMax σ.L s 49 (le_refl _)) = N
  by_cases hlt : (i 1).val < 16
  · have hbk : blk (i 1).val = (i 1).val := if_pos hlt
    rw [hbk] at hs
    have hmod : (i 1).val * 6272 % 128 = 0 := by omega
    have hM' : Lanes S fun l => M (ix2 q l) := by
      rw [← hM]
      refine laneMax_row hmod s q hs _ ?_ 49 (le_refl _)
      by_cases h0 : (i 1).val = 0
      · rw [if_pos h0]
        exact fun l => .inl (negInf_apply _)
      · rw [if_neg h0]
        exact h.lanes (by omega) (by omega)
    have hN' : (i 1).val = 15 → Good S (N (ix2 q 0)) := by
      intro h15
      rw [← hN]
      exact thresh_row _ q (laneMax_row hmod s q hs _ (h.lanes (by omega) (by omega)) 49 (le_refl _))
    clear hP hM hN
    refine ⟨fun _ _ => ?_, fun h1 => ?_, fun h1 => absurd h1 (by omega)⟩
    · dsimp only
      rw [if_pos hlt]
      exact hM'
    · dsimp only
      rw [if_pos (by omega : (i 1).val = 15)]
      exact hN' (by omega)
  · have hbk : blk (i 1).val = (i 1).val - 16 := if_neg hlt
    rw [hbk] at hs hcol
    have e : ((i 1).val + 1 - 16) * 6272 = ((i 1).val - 16) * 6272 + 6272 := by omega
    have key : Top S (cands S (σ.t (ix2 q 0)) 0 (((i 1).val + 1 - 16) * 6272)) (rowV P.1 q) (rowI P.2 q) := by
      rw [e, ← cands_join, ← hP]
      refine phase2_row s σ.t col q hs hcol (by omega) _ ?_ (fun a ha => ?_)
      · by_cases h16 : (i 1).val = 16
        · rw [if_pos h16, h16, Nat.sub_self, Nat.zero_mul, cands_zero]
          exact top_empty (rowV_negInf q)
        · rw [if_neg h16]
          exact h.top (by omega)
      · have := (mem_cands.1 ha).2.1
        omega
    clear hP hM hN
    refine ⟨fun _ h2 => absurd h2 (by omega), fun _ => ?_, fun _ => ?_⟩
    · dsimp only
      rw [if_neg (by omega : ¬ (i 1).val = 15)]
      exact h.good (by omega)
    · dsimp only
      rw [if_neg hlt, if_neg hlt, if_neg (by omega : ¬ (i 1).val = 15)]
      exact key

/-- After the last step the columns kept are the best 32 of all, in order. -/
theorem inv_last {S : ℕ → EReal} (hf : ∀ a, a < 100000 → S a ≠ ⊥) (hbot : ∀ a, 100000 ≤ a → S a = ⊥) (σ : St Ideal) (q : Fin 256) (h : Inv S 32 σ q) (k : Fin 32) :
    ∃ a, a < 100000 ∧ rk S (Finset.range 100000) a = k.val ∧ (σ.ri (ix2 q k) : BitVec 32) = BitVec.ofNat 32 a := by
  classical
  have hk := k.isLt
  obtain ⟨a, ha, hr⟩ := exists_rk (S := S) (A := Finset.range 100000) (k := k.val) (by rw [Finset.card_range]; omega)
  have haN := Finset.mem_range.1 ha
  have T := h.top (by omega)
  have G := h.good (by omega)
  generalize (σ.t (ix2 q 0)) = t at T G
  have e : (32 - 16) * 6272 = 100352 := by decide
  rw [e] at T
  have hta : (t : EReal) ≤ S a := by
    by_contra hn
    rw [not_le] at hn
    rcases G with hb | ⟨X, hX, hc⟩
    · rw [hb] at hn; exact absurd hn not_lt_bot
    · have hsub : X ⊆ (Finset.range 100000).filter fun b => bef S b a := by
        intro c hcX
        have h1 := hn.trans_le (hc c hcX)
        refine Finset.mem_filter.2 ⟨Finset.mem_range.2 ?_, .inl h1⟩
        by_contra hcl
        rw [hbot c (by omega)] at h1
        exact absurd h1 not_lt_bot
      have := Finset.card_le_card hsub
      have hr' : ((Finset.range 100000).filter fun b => bef S b a).card = k.val := hr
      omega
  have hmem : a ∈ cands S t 0 100352 := mem_cands.2 ⟨by omega, by omega, hta, hf a haN⟩
  have hrk : rk S (cands S t 0 100352) a = k.val := by
    refine Eq.trans ?_ hr
    unfold rk
    refine congrArg Finset.card (Finset.ext fun b => ?_)
    rw [Finset.mem_filter, Finset.mem_filter, mem_cands, Finset.mem_range]
    constructor
    · rintro ⟨⟨-, -, -, hb⟩, h2⟩
      refine ⟨?_, h2⟩
      by_contra hcl
      exact hb (hbot b (by omega))
    · rintro ⟨h1, h2⟩
      refine ⟨⟨by omega, by omega, hta.trans ?_, hf b h1⟩, h2⟩
      rcases h2 with h2 | h2
      · exact h2.le
      · exact h2.1.ge
  have hi := T.idx a hmem (by rw [hrk]; exact hk)
  rw [hrk, rowI_of] at hi
  exact ⟨a, haN, hr, by rw [← hi, BitVec.ofNat_toNat, BitVec.setWidth_eq]⟩

end Cert.Proof.KernelIdeal.Val
end
-- ==== Proof.Ref.lean ====
/-
  The reference's indices: the columns in order of score, the earlier of equal scores first.
-/
module

public import proofs.«01_k».proof.Proof.Rank
public import proofs.«01_k».proof.Proof.Gen.ReferenceIdeal
public import proofs.«01_k».proof.Proof.Gen.ReferenceIdeal.Run
public import proofs.«01_k».proof.Pre_finite
public import Idealize.ShloMosaic.Lib.ReduceAll
public import Idealize.ShloMosaic.Lib.SortPrefix
public import Idealize.ShloMosaic.Lib.MatmulPlain
public import Idealize.ShloMosaic.Lib.Pointwise

@[expose] public section

noncomputable section

namespace Cert.Proof.Ref

open Idealize.ShloMosaic Cert.Proof.Rank Cert.ReferenceIdeal Cert.ReferenceIdeal.Gen
open Finset

/-- The score of a column for a row of queries; minus infinity past the last column. -/
def score (x : FVec Ideal S1024x32 .f32) (W : FVec Ideal S100000x32 .f32) (r : Fin 1024) (a : ℕ) : EReal :=
  if h : a < 100000 then ∑ k : Fin 32, (x (ix2 r k) : EReal) * W (ix2 ⟨a, h⟩ k) else ⊥

theorem stableSort_agree {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.1 hb)

/-- A stable sort by the greater score puts at `i` the column of rank `i`. -/
theorem sorted_rank {n : ℕ} (hn : 32 ≤ n) (S : ℕ → EReal) (R : Fin n → Fin n → Bool) (hR : ∀ k k', R k k' = true ↔ S k'.val < S k.val)
    (i : Fin 32) (a : Fin n) (ha : rk S (range n) a.val = i.val) : sortedFrom R (i.castLE hn) = a := by
  have hB := StrictTotalBefore.of_key_then_position (n := n) (fun a b : EReal => decide (b < a)) (fun k => S k.val)
    (fun a => by simp) (fun a b c h h' => by simp only [decide_eq_true_eq] at *; exact h'.trans h)
    (fun a b => by
      simp only [decide_eq_true_eq]
      rcases lt_trichotomy a b with h | h | h
      · exact .inr (.inr h)
      · exact .inr (.inl h)
      · exact .inl h)
  have hbef : ∀ k k' : Fin n, (decide (S k'.val < S k.val) || (decide (S k.val = S k'.val) && decide (k < k'))) = true ↔ bef S k.val k'.val := by
    intro k k'
    simp only [Bool.or_eq_true, Bool.and_eq_true, decide_eq_true_eq]
    rfl
  have hs : sortedFrom R = sortedFrom (fun k k' : Fin n => (decide (S k'.val < S k.val) || (decide (S k.val = S k'.val) && decide (k < k')))) := by
    funext k
    unfold sortedFrom
    refine List.get_of_eq (stableSort_agree _ _ _ ?_) _
    refine (List.pairwise_lt_finRange n).imp ?_
    intro a b hab
    rw [Bool.eq_iff_iff, hR, hbef]
    constructor
    · exact fun h => .inl h
    · rintro (h | h)
      · exact h
      · exact absurd hab (not_lt.2 (le_of_lt h.2))
  have hex : ∀ i : Fin 32, ∃ a : Fin n, rk S (range n) a.val = i.val := by
    intro i
    obtain ⟨a, ha, h⟩ := exists_rk (S := S) (A := range n) (k := i.val) (by rw [card_range]; omega)
    exact ⟨⟨a, mem_range.1 ha⟩, h⟩
  choose σ hσ using hex
  have hmem : ∀ a : Fin n, a.val ∈ range n := fun a => mem_range.2 a.isLt
  rw [hs, hB.sortedFrom_eq_of_prefix hn σ ?_ ?_ ?_ i]
  · exact Fin.ext (rk_inj (hmem _) (hmem _) ((hσ i).trans ha.symm))
  · intro i j h
    apply Fin.ext
    rw [← hσ i, ← hσ j, h]
  · intro i j hij
    rw [Bool.eq_false_iff]
    intro h
    have := rk_lt (hmem (σ j)) ((hbef _ _).1 h)
    rw [hσ, hσ] at this
    omega
  · intro i p hp
    rw [Bool.eq_false_iff]
    intro h
    have := rk_lt (hmem p) ((hbef _ _).1 h)
    rw [hσ] at this
    have hi := i.isLt
    refine hp ⟨rk S (range n) p.val, by omega⟩ (Fin.ext (rk_inj (S := S) (hmem _) (hmem _) ?_))
    rw [hσ]

/-- The reference's indices. -/
def refIdx (x : FVec Ideal S1024x32 .f32) (W : FVec Ideal S100000x32 .f32) : IVec S1024x32 32 :=
  (Host.topK S1024x32 1 (FloatOps.cmpfTotal .gt) (Host.dotGeneral dot_S1024x32_S32x100000_S1024x100000_1_0_0_1_n_n none x
    (transpose S32x100000 [1, 0] W transposes_S100000x32_S32x100000_1_0)) sliceFits_S1024x100000_S1024x32).2

theorem ix2_eq {n m : ℕ} (a : Fin n) (b : Fin m) : ix2 a b = ValueIdx.ix2 a b := by
  funext d
  match d with
  | ⟨0, _⟩ => rfl
  | ⟨1, _⟩ => rfl

theorem dot_apply (x : FVec Ideal S1024x32 .f32) (W : FVec Ideal S100000x32 .f32) (r : Fin 1024) (a : Fin 100000) :
    Host.dotGeneral dot_S1024x32_S32x100000_S1024x100000_1_0_0_1_n_n none x
      (transpose S32x100000 [1, 0] W transposes_S100000x32_S32x100000_1_0) (ix2 r a) = score x W r a.val := by
  have h := Ideal.matmul_plain_apply (M := 1024) (K := 32) (N := 100000) none x (transpose S32x100000 [1, 0] W transposes_S100000x32_S32x100000_1_0)
    (constant S1024x100000 .f32 0x00000000#32) r a
  rw [← ix2_eq] at h
  have e : Host.dotGeneral dot_S1024x32_S32x100000_S1024x100000_1_0_0_1_n_n none x
      (transpose S32x100000 [1, 0] W transposes_S100000x32_S32x100000_1_0) (ix2 r a)
      = FloatOps.matmul (DotDims.plain 1024 32 100000) none x (transpose S32x100000 [1, 0] W transposes_S100000x32_S32x100000_1_0) (constant S1024x100000 .f32 0x00000000#32) (ix2 r a) :=
    (Ideal.dotGeneral_apply _ _ _ _ _ _).trans (Ideal.matmul_constant_zero_apply _ _ _ _ _).symm
  rw [e, Ideal.matmul_constant_zero_apply]
  rw [Ideal.matmul_apply] at h
  have h0 : (constant S1024x100000 .f32 0x00000000#32 (ix2 r a) : Ideal .f32) = (0 : EReal) := Ideal.ofBits_zero_f32
  rw [h0, zero_add, zero_add] at h
  rw [h]
  unfold score
  rw [dif_pos a.isLt]
  refine Finset.sum_congr rfl fun k _ => ?_
  have e2 : transpose S32x100000 [1, 0] W transposes_S100000x32_S32x100000_1_0 (ValueIdx.ix2 k a) = W (ix2 a k) := by
    rw [← ix2_eq]
    simp only [pointwise]
  rw [e2, ix2_eq r k]

theorem refIdx_apply (x : FVec Ideal S1024x32 .f32) (W : FVec Ideal S100000x32 .f32) (r : Fin 1024) (i : Fin 32) (a : ℕ) (h : a < 100000)
    (ha : rk (score x W r) (range 100000) a = i.val) : refIdx x W (ix2 r i) = BitVec.ofNat 32 a := by
  have hs := sorted_rank (n := 100000) (by omega) (score x W r)
    (fun k k' => (FloatOps.cmpfTotal (F := Ideal) .gt (Host.dotGeneral dot_S1024x32_S32x100000_S1024x100000_1_0_0_1_n_n none x
      (transpose S32x100000 [1, 0] W transposes_S100000x32_S32x100000_1_0) (ix2 r k)) (Host.dotGeneral dot_S1024x32_S32x100000_S1024x100000_1_0_0_1_n_n none x
      (transpose S32x100000 [1, 0] W transposes_S100000x32_S32x100000_1_0) (ix2 r k'))) == 1#1) (fun k k' => by
        rw [dot_apply, dot_apply]
        show (BitVec.ofBool (decide (score x W r k'.val < score x W r k.val)) == 1#1) = true ↔ _
        by_cases h : score x W r k'.val < score x W r k.val <;> simp [h]) i ⟨a, h⟩ ha
  generalize hD : Host.dotGeneral dot_S1024x32_S32x100000_S1024x100000_1_0_0_1_n_n none x
      (transpose S32x100000 [1, 0] W transposes_S100000x32_S32x100000_1_0) = D at hs
  unfold refIdx
  rw [hD]
  have hal : ∀ (j : S1024x100000.Idx) (k : Fin 100000), (j 0).val = r.val → Shape.Idx.along (s := S1024x100000) j (1 : Fin 2) k = ix2 r k := by
    intro j k hj
    funext d
    match d with
    | ⟨0, _⟩ => exact Fin.ext hj
    | ⟨1, _⟩ => exact Function.update_self _ _ _
  have key : ∀ (j : S1024x100000.Idx), (j 0).val = r.val → (j 1).val = i.val →
      (Host.sort2 S1024x100000 1 (fun l r : Ideal .f32 × BitVec 32 => FloatOps.cmpfTotal .gt l.1 r.1) D
        (fun i => if hd : 1 < S1024x100000.rank then iotaInDim S1024x100000 32 ⟨1, hd⟩ i else 0#32)).2 j = BitVec.ofNat 32 a := by
    intro j hj hi
    unfold Host.sort2
    rw [dif_pos (by decide : 1 < S1024x100000.rank)]
    dsimp only
    refine (dif_pos (by decide)).trans ?_
    have this : (fun k k' => (FloatOps.cmpfTotal (F := Ideal) .gt (D (Shape.Idx.along (s := S1024x100000) j (1 : Fin 2) k)) (D (Shape.Idx.along (s := S1024x100000) j (1 : Fin 2) k'))) == 1#1)
        = fun k k' => (FloatOps.cmpfTotal (F := Ideal) .gt (D (ix2 r k)) (D (ix2 r k'))) == 1#1 := by
      funext k k'
      exact congrArg₂ (fun a b => FloatOps.cmpfTotal (F := Ideal) .gt (D a) (D b) == 1#1) (hal j k hj) (hal j k' hj)
    have hij : j (1 : Fin 2) = i.castLE (by omega : 32 ≤ 100000) := Fin.ext hi
    show BitVec.ofNat 32 ((Shape.Idx.along (s := S1024x100000) j (1 : Fin 2) (sortedFrom (fun k k' => (FloatOps.cmpfTotal (F := Ideal) .gt (D (Shape.Idx.along (s := S1024x100000) j (1 : Fin 2) k)) (D (Shape.Idx.along (s := S1024x100000) j (1 : Fin 2) k'))) == 1#1) (j (1 : Fin 2)))) (1 : Fin 2)).val = _
    rw [this, hij]
    refine (congrArg (fun v : S1024x100000.Idx => BitVec.ofNat 32 (v (1 : Fin 2)).val) (hal j _ hj)).trans ?_
    exact congrArg (fun f : Fin 100000 => BitVec.ofNat 32 f.val) hs
  exact key _ (Nat.zero_add _) (Nat.zero_add _)

/-- Neither infinity. -/
def Fin' (v : EReal) : Prop := ∃ r : ℝ, v = r

theorem score_real {x : FVec Ideal S1024x32 .f32} {W : FVec Ideal S100000x32 .f32} (hx : ∀ i, Fin' (x i)) (hW : ∀ i, Fin' (W i))
    (r : Fin 1024) {a : ℕ} (h : a < 100000) : score x W r a ≠ ⊥ := by
  unfold score
  rw [dif_pos h]
  have : Fin' (∑ k : Fin 32, (x (ix2 r k) : EReal) * W (ix2 ⟨a, h⟩ k)) := by
    refine Finset.sum_induction _ Fin' ?_ ⟨0, rfl⟩ ?_
    · rintro _ _ ⟨a, rfl⟩ ⟨b, rfl⟩
      exact ⟨a + b, (EReal.coe_add a b).symm⟩
    · intro k _
      obtain ⟨a, ha⟩ := hx (ix2 r k)
      obtain ⟨b, hb⟩ := hW (ix2 ⟨_, h⟩ k)
      rw [ha, hb]
      exact ⟨a * b, (EReal.coe_mul a b).symm⟩
  obtain ⟨v, hv⟩ := this
  rw [hv]
  exact EReal.coe_ne_bot v

theorem fin_of_abs {v : EReal} (h : max v (-v) < ⊤) : Fin' v := by
  induction v using EReal.rec with
  | bot => simp at h
  | top => simp at h
  | coe r => exact ⟨r, rfl⟩

theorem ofBits_posInf : (Ideal.ofBits .f32 0x7F800000#32 : EReal) = ⊤ := by
  simp [Ideal.ofBits, Ideal.ieee]

/-- What the condition on the inputs says. -/
theorem finite_args [Cert.Pre_finite.Facts] {x : FVec Ideal S1024x32 .f32} {W : FVec Ideal S100000x32 .f32}
    (h : Cert.Pre_finite.fn (F := Ideal) x W = fun _ => 1#1) : (∀ i, Fin' (x i)) ∧ ∀ i, Fin' (W i) := by
  have h0 := congrFun h ValueIdx.ix0
  unfold Cert.Pre_finite.fn at h0
  have and_one : ∀ a b : BitVec 1, IntOp.andi a b = 1#1 → a = 1#1 ∧ b = 1#1 := by decide
  obtain ⟨h1, h2⟩ := and_one _ _ h0
  have : Subsingleton Cert.Pre_finite.S_.Idx := ⟨fun a b => funext fun d => d.elim0⟩
  have cmp : ∀ p : Bool, BitVec.ofBool p = 1#1 → p = true := by decide
  constructor
  · intro i
    have := of_decide_eq_true (cmp _ (Host.reduce_andi_all _ _ _ _ _ h1 i))
    exact fin_of_abs (ofBits_posInf ▸ this)
  · intro i
    have := of_decide_eq_true (cmp _ (Host.reduce_andi_all _ _ _ _ _ h2 i))
    exact fin_of_abs (ofBits_posInf ▸ this)

end Cert.Proof.Ref
end
-- ==== Proof.Blocks.lean ====
/-
  The windows' blocks at coordinates: what a grid point reads of the arguments, and where it writes.
-/
module

public import proofs.«01_k».proof.Proof.Gen.KernelIdeal.Frame
public import proofs.«01_k».proof.Proof.Inv
public import proofs.«01_k».proof.Proof.Ref
public import Idealize.ShloMosaic.Lib.Pipeline.ValueKit

@[expose] public section

noncomputable section

namespace Cert.Proof.KernelIdeal.Val

open Cert.Proof.KernelIdeal Cert.KernelIdeal Cert.KernelIdeal.Gen
open Idealize.ShloMosaic Idealize.ShloMosaic.TcCoe

variable (m : (ℓ : Loc nD τ sig) → Buf (Elt Ideal) ℓ)

theorem coords_eq : ∀ t : Fin cfg0.N, ((grid0.coords t) 0).val = t.val / 32 ∧ ((grid0.coords t) 1).val = t.val % 32 :=
  (by decide +kernel : ∀ t : Fin grid0.N, ((grid0.coords t) 0).val = t.val / 32 ∧ ((grid0.coords t) 1).val = t.val % 32)

theorem index_eq : ∀ t : Fin cfg0.N, win0_0.index t = ![t.val / 32, 0] ∧ win0_1.index t = ![blk (t.val % 32), 0] ∧ win0_2.index t = ![t.val / 32, 0] :=
  (by decide +kernel : ∀ t : Fin grid0.N, win0_0.index t = ![t.val / 32, 0] ∧ win0_1.index t = ![blk (t.val % 32), 0] ∧ win0_2.index t = ![t.val / 32, 0])

/-- The row of the arguments and of the result that row `q` of the tile is. -/
def rowOf (t : ℕ) (q : Fin 256) : Fin 1024 := ⟨(256 * (t / 32) + q.val) % 1024, Nat.mod_lt _ (by omega)⟩

theorem rowOf_val (t : Fin cfg0.N) (q : Fin 256) : (rowOf t.val q).val = t.val / 32 * 256 + q.val := by
  have ht : t.val < 128 := t.isLt
  have hq := q.isLt
  show (256 * (t.val / 32) + q.val) % 1024 = _
  omega

theorem iblk0_apply (c : Dev nD) (t : Fin cfg0.N) (q : Fin 256) (k : Fin 32) :
    iblk m c 0 t (ix2 q k) = m ((c.tc : Thread nD τ).loc main_arg0) (ix2 (rowOf t.val q) k) := by
  have e := (index_eq t).1
  have hr := rowOf_val t q
  generalize rowOf t.val q = r at *
  blk_simp [iblk, e, V_main_arg0]
  refine congrArg (m ((c.tc : Thread nD τ).loc main_arg0)) ?_
  blk_ext [e]

theorem emb2 (t : Fin cfg0.N) (y : S256x32.Idx) : ((cfg0.win 2).blk t).view.emb y = (ix2 (rowOf t.val (y 0)) (y 1) : S1024x32.Idx) := by
  have e := (index_eq t).2.2
  have hr := rowOf_val t (y 0)
  generalize rowOf t.val (y 0) = r at *
  blk_ext [e]

theorem pad_eq (x : FVec Ideal S100000x32 .f32) (v : FVec Ideal S_ .f32) (j : S100352x32.Idx) (a : Fin 100000) (d : Fin 32)
    (h0 : (j 0).val = a.val) (h1 : (j 1).val = d.val) :
    pad S100352x32 ![0, 0] ![352, 0] ![0, 0] x v pads_S100000x32_S100352x32_03520_000 h_S_ j = x (ix2 a d) := by
  have ha := a.isLt
  have hd := d.isLt
  unfold pad
  rw [dif_pos]
  · refine congrArg x ?_
    funext b
    match b with
    | ⟨0, _⟩ => exact Fin.ext (show ((j 0).val - 0) / 1 = a.val by omega)
    | ⟨1, _⟩ => exact Fin.ext (show ((j 1).val - 0) / 1 = d.val by omega)
  · intro b
    match b with
    | ⟨0, _⟩ => exact ⟨Nat.zero_le _, Nat.mod_one _, show ((j 0).val - 0) / 1 < 100000 by omega⟩
    | ⟨1, _⟩ => exact ⟨Nat.zero_le _, Nat.mod_one _, show ((j 1).val - 0) / 1 < 32 by omega⟩

theorem iblk1_apply (c : Dev nD) (t : Fin cfg0.N) (k : Fin 6272) (d : Fin 32) (h : blk (t.val % 32) * 6272 + k.val < 100000) :
    iblk m c 1 t (ix2 k d) = m ((c.tc : Thread nD τ).loc main_arg1) (ix2 ⟨blk (t.val % 32) * 6272 + k.val, h⟩ d) := by
  have e := (index_eq t).2.1
  blk_simp [iblk, e]
  entry_read
  have hp := fun v (j : S100352x32.Idx) (hj0 : (j 0).val = blk (t.val % 32) * 6272 + k.val) (hj1 : (j 1).val = d.val) =>
    pad_eq (m ((c.tc : Thread nD τ).loc main_arg1)) v j ⟨blk (t.val % 32) * 6272 + k.val, h⟩ d hj0 hj1
  refine hp _ _ ?_ ?_
  · blk_simp [e]
  · blk_simp [e]

/-- The scores a grid point works on are the reference's. -/
theorem scores_eq (c : Dev nD) (t : Fin cfg0.N) (q : Fin 256) (k : Fin 6272) :
    (k0_pay519 (grid0.coords t) (iblk m c 0 t) (iblk m c 1 t) (ix2 q k) : EReal)
      = Ref.score (m ((c.tc : Thread nD τ).loc main_arg0)) (m ((c.tc : Thread nD τ).loc main_arg1)) (rowOf t.val q) (blk ((grid0.coords t) 1).val * 6272 + k.val) := by
  refine (pay519_apply (grid0.coords t) (iblk m c 0 t) (iblk m c 1 t) q k).trans ?_
  have e := (coords_eq t).2
  rw [e]
  unfold Ref.score
  by_cases h : blk (t.val % 32) * 6272 + k.val < 100000
  · rw [if_pos h, dif_pos h]
    refine Finset.sum_congr rfl fun d _ => ?_
    exact congrArg₂ (fun a b : EReal => a * b) (iblk0_apply m c t q d) (iblk1_apply m c t k d h)
  · rw [if_neg h, dif_neg h]

end Cert.Proof.KernelIdeal.Val
end
-- ==== Proof.IVal.lean ====
/-
  The idealized kernel's run with its result: the columns it leaves are the reference's.
-/
module

public import proofs.«01_k».proof.Proof.IRun2
public import proofs.«01_k».proof.Proof.Blocks

@[expose] public section

noncomputable section

namespace Cert.Proof.KernelIdeal.Val

open Cert.Proof.KernelIdeal Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

local notation "𝕄" => MT nD τ sig Unit (Elt Ideal) ℕ (UR sig nD τ) ℕ

/-- The body at any grid point: the scratch buffers move as `stp` says, and the last step of a tile stores the columns kept. -/
theorem bodyRunV (c : Dev nD) (i : grid0.Coords) (M2 : Memref sig .tc .vmem S256x32 .f32) (h2 : M2.IsWhole) (M3 : Memref sig .tc .vmem S6272x32 .f32) (h3 : M3.IsWhole)
    (M4 : Memref sig .tc .vmem S256x32 .i32) (h4 : M4.IsWhole) (M5 : Memref sig .tc .vmem S256x128 .f32) (h5 : M5.IsWhole) (M6 : Memref sig .tc .vmem S256x1 .f32) (h6 : M6.IsWhole)
    (M7 : Memref sig .tc .vmem S256x32 .f32) (h7 : M7.IsWhole) (M8 : Memref sig .tc .vmem S256x32 .i32) (h8 : M8.IsWhole)
    (f2 : Bf (F := Ideal) c M2) (f3 : Bf (F := Ideal) c M3) (f4 : Bf (F := Ideal) c M4) (f5 : Bf (F := Ideal) c M5) (f6 : Bf (F := Ideal) c M6) (f7 : Bf (F := Ideal) c M7) (f8 : Bf (F := Ideal) c M8)
    (K : PUnit → sProp 𝕄) :
    iprop(pw c M2 f2 ∗ pw c M3 f3 ∗ pw c M4 f4 ∗ pt c M5 f5 ∗ pt c M6 f6 ∗ pt c M7 f7 ∗ pt c M8 f8
      ∗ (iprop(pw c M2 f2 ∗ pw c M3 f3 ∗ (∃ f, pw c M4 f ∗ ⌜((i 1).val = 31 → M4.view.read (Elt Ideal) f = (stp i (M2.view.read (Elt Ideal) f2) (M3.view.read (Elt Ideal) f3) (stOf f5 f6 f7 f8)).ri) ∧ ((i 1).val ≠ 31 → f = f4)⌝)
        ∗ (∃ f, pt c M5 f ∗ ⌜M5.view.read (Elt Ideal) f = (stp i (M2.view.read (Elt Ideal) f2) (M3.view.read (Elt Ideal) f3) (stOf f5 f6 f7 f8)).L⌝) ∗ (∃ f, pt c M6 f ∗ ⌜M6.view.read (Elt Ideal) f = (stp i (M2.view.read (Elt Ideal) f2) (M3.view.read (Elt Ideal) f3) (stOf f5 f6 f7 f8)).t⌝)
        ∗ (∃ f, pt c M7 f ∗ ⌜M7.view.read (Elt Ideal) f = (stp i (M2.view.read (Elt Ideal) f2) (M3.view.read (Elt Ideal) f3) (stOf f5 f6 f7 f8)).rv⌝) ∗ (∃ f, pt c M8 f ∗ ⌜M8.view.read (Elt Ideal) f = (stp i (M2.view.read (Elt Ideal) f2) (M3.view.read (Elt Ideal) f3) (stOf f5 f6 f7 f8)).ri⌝)) -∗ K ⟨⟩))
    ⊢ wp frame (wpE (defs₀ (F := Ideal)) 𝒱₀ c none) Set.univ (cc0__body i M2 h2 M3 h3 M4 h4 M5 h5 M6 h6 M7 h7 M8 h8) K := by
  by_cases a5 : 16 ≤ (i 1).val
  · exact bodyRunB c i M2 h2 M3 h3 M4 h4 M5 h5 M6 h6 M7 h7 M8 h8 f2 f3 f4 f5 f6 f7 f8 a5 K
  · exact bodyRunA c i M2 h2 M3 h3 M4 h4 M5 h5 M6 h6 M7 h7 M8 h8 f2 f3 f4 f5 f6 f7 f8 a5 K

variable (m : (ℓ : Loc nD τ sig) → Buf (Elt Ideal) ℓ) (ρ : Dev nD → PrngReg)

abbrev argX (c : Dev nD) : FVec Ideal S1024x32 .f32 := m ((c.tc : Thread nD τ).loc main_arg0)
abbrev argW (c : Dev nD) : FVec Ideal S100000x32 .f32 := m ((c.tc : Thread nD τ).loc main_arg1)

/-- What the scratch buffers hold before point `n`. -/
def Held (c : Dev nD) (n : ℕ) (σ : St Ideal) : Prop := ∀ q, Inv (Ref.score (argX m c) (argW m c) (rowOf n q)) (n % 32) σ q

/-- The scratch buffers before a point, at contents that keep the invariant. -/
def keeps (c : Dev nD) (n : ℕ) : sProp 𝕄 :=
  iprop((∃ (f5 : Bf (F := Ideal) c (Memref.whole cc0_scratch0)) (f6 : Bf (F := Ideal) c (Memref.whole cc0_scratch1)) (f7 : Bf (F := Ideal) c (Memref.whole cc0_scratch2)) (f8 : Bf (F := Ideal) c (Memref.whole cc0_scratch3)),
    (pt c (Memref.whole cc0_scratch0) f5 ∗ pt c (Memref.whole cc0_scratch1) f6 ∗ pt c (Memref.whole cc0_scratch2) f7 ∗ pt c (Memref.whole cc0_scratch3) f8)
      ∗ ⌜Held m c n (stOf f5 f6 f7 f8)⌝) ∗ (∃ r, prngReg c r))

/-- The proof data: the inputs at their blocks, the result at the reference's columns. -/
def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => fun y => Ref.refIdx (argX m c) (argW m c) (ix2 (rowOf t.val (y 0)) (y 1))
  Φ t := keeps m c t.val
  q _ := fullShare
  owed _ := 0

theorem vA_eq (c : Dev nD) (w : Fin cfg0.W) : (vdats m 0 c).A w = V m c (Pipeline.arrRef spec0 w) := rfl
theorem vafter_0 (c : Dev nD) (t : Fin cfg0.N) : (vdats m 0 c).after 0 t = iblk m c 0 t := by dsimp only [vdats]
theorem vafter_1 (c : Dev nD) (t : Fin cfg0.N) : (vdats m 0 c).after 1 t = iblk m c 1 t := by dsimp only [vdats]
theorem vafter_2 (c : Dev nD) (t : Fin cfg0.N) : (vdats m 0 c).after 2 t = fun y => Ref.refIdx (argX m c) (argW m c) (ix2 (rowOf t.val (y 0)) (y 1)) := by dsimp only [vdats]
theorem vbefore_0 (c : Dev nD) (t : Fin cfg0.N) (d) : (vdats m 0 c).before 0 t d = iblk m c 0 t :=
  before0_0_of m (vdats m 0 c) (vA_eq m c 0) (vafter_0 m c) t d
theorem vbefore_1 (c : Dev nD) (t : Fin cfg0.N) (d) : (vdats m 0 c).before 1 t d = iblk m c 1 t :=
  before0_1_of m (vdats m 0 c) (vA_eq m c 1) (vafter_1 m c) t d

theorem held_zero (c : Dev nD) {n : ℕ} (h : n % 32 = 0) (σ : St Ideal) : Held m c n σ := fun q => by rw [h]; exact inv_zero _ σ q

theorem held_stp (c : Dev nD) (t : Fin cfg0.N) {σ : St Ideal} (h : Held m c t.val σ) (q : Fin 256) :
    Inv (Ref.score (argX m c) (argW m c) (rowOf t.val q)) (t.val % 32 + 1) (stp (grid0.coords t) (iblk m c 0 t) (iblk m c 1 t) σ) q := by
  have e := (coords_eq t).2
  have hq := h q
  rw [← e] at hq ⊢
  exact stp_inv (grid0.coords t) (iblk m c 0 t) (iblk m c 1 t) σ q (fun k => scores_eq m c t q k) hq

theorem held_succ (c : Dev nD) (t : Fin cfg0.N) {σ : St Ideal} (h : Held m c t.val σ) :
    Held m c (t.val + 1) (stp (grid0.coords t) (iblk m c 0 t) (iblk m c 1 t) σ) := by
  by_cases h31 : t.val % 32 = 31
  · exact held_zero m c (by omega) _
  · intro q
    have := held_stp m c t h q
    rw [show (t.val + 1) % 32 = t.val % 32 + 1 by omega, show rowOf (t.val + 1) q = rowOf t.val q from
      Fin.ext (show (256 * ((t.val + 1) / 32) + q.val) % 1024 = (256 * (t.val / 32) + q.val) % 1024 by rw [show (t.val + 1) / 32 = t.val / 32 by omega])]
    exact this

variable (hfin : ∀ c, (∀ i, Ref.Fin' (argX m c i)) ∧ ∀ i, Ref.Fin' (argW m c i))

include hfin in
theorem held_last (c : Dev nD) (t : Fin cfg0.N) (h31 : t.val % 32 = 31) {σ : St Ideal} (h : Held m c t.val σ) (q : Fin 256) (k : Fin 32) :
    (stp (grid0.coords t) (iblk m c 0 t) (iblk m c 1 t) σ).ri (ix2 q k) = Ref.refIdx (argX m c) (argW m c) (ix2 (rowOf t.val q) k) := by
  have hI := held_stp m c t h q
  rw [h31] at hI
  obtain ⟨a, ha, hr, he⟩ := inv_last (fun a ha => Ref.score_real (hfin c).1 (hfin c).2 _ ha) (fun a ha => dif_neg (by omega)) _ q hI k
  exact he.trans (Ref.refIdx_apply (argX m c) (argW m c) (rowOf t.val q) k a ha hr).symm

theorem idle_2 (t : Fin cfg0.N) : cfg0.idle 2 (grid0.coords t) = !decide (t.val % 32 = 31) := by
  have e := (coords_eq t).2
  have h : k0_cond8 (grid0.coords t) = 1#1 ↔ ((grid0.coords t) 1).val = 31 := c8_iff ((grid0.coords t) 1)
  rw [e] at h
  show (!(k0_cond8 (grid0.coords t) == 1#1)) = !decide (t.val % 32 = 31)
  refine congrArg (fun b => !b) ?_
  by_cases h31 : t.val % 32 = 31
  · rw [decide_eq_true h31, beq_iff_eq]; exact h.2 h31
  · rw [decide_eq_false h31, beq_eq_false_iff_ne]; exact fun hc => h31 (h.1 hc)

theorem st_eq (σ : St Ideal) {L : FVec Ideal S256x128 .f32} {t : FVec Ideal S256x1 .f32} {rv : Vec Ideal S256x32 .f32} {ri : Vec Ideal S256x32 .i32}
    (h1 : L = σ.L) (h2 : t = σ.t) (h3 : rv = σ.rv) (h4 : ri = σ.ri) : (⟨L, t, rv, ri⟩ : St Ideal) = σ := by
  subst h1 h2 h3 h4; rfl

theorem ix2_self (y : S256x32.Idx) : (ix2 (y 0) (y 1) : S256x32.Idx) = y := by
  funext d
  match d with
  | ⟨0, _⟩ => rfl
  | ⟨1, _⟩ => rfl

theorem flush_2 (t : Fin cfg0.N) (h : t.val % 32 ≠ 31) : (cfg0.win 2).flush t = false := by
  rw [← Bool.not_eq_true]
  exact fun h' => h ((flush0_2 t).1 h')

set_option maxRecDepth 100000 in
set_option maxHeartbeats 4000000 in
include hfin in
theorem body_obligationV (c : Dev nD) : BodyObligation (vdats m 0 c) (defs₀ (F := Ideal)) 𝒱₀ () Set.univ := fun t => by
  rw [bigSep_W0, bigSep_W0]
  sl_whnfR [defs₀, Defs.onTc]
  simp only [vbefore_0, vbefore_1]
  rw [show (vdats m 0 c).Φ t.succ = keeps m c (t.val + 1) from rfl, show (vdats m 0 c).Φ t.castSucc = keeps m c t.val from rfl,
    show (vdats m 0 c).owesAt () t.succ = (vdats m 0 c).owesAt () t.castSucc from rfl, vafter_0, vafter_1]
  unfold keeps
  unfold owns
  have hi := idle_2 t
  have e := (coords_eq t).2
  iintro ⟨⟨⟨%f5, %f6, %f7, %f8, ⟨H5, H6, H7, H8⟩, %hI⟩, Hp⟩, Ho, ⟨%d2, %f2, %hf2, H2⟩, ⟨%d3, %f3, %hf3, H3⟩, ⟨%d4, %f4, %hf4, H4⟩⟩
  iapply (bodyRunV c (grid0.coords t) (stage0_0 (cfg0.slots t 0)) _ (stage0_1 (cfg0.slots t 1)) _ (stage0_2 (cfg0.slots t 2)) _
    (Memref.whole cc0_scratch0) _ (Memref.whole cc0_scratch1) _ (Memref.whole cc0_scratch2) _ (Memref.whole cc0_scratch3) _ f2 f3 f4 f5 f6 f7 f8 _)
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H2, H3, ⟨%g4, H4, %hg4⟩, ⟨%g5, H5, %hg5⟩, ⟨%g6, H6, %hg6⟩, ⟨%g7, H7, %hg7⟩, ⟨%g8, H8, %hg8⟩⟩
  isplitl [H5 H6 H7 H8 Hp]
  · isplitl [H5 H6 H7 H8]
    · iexists g5; iexists g6; iexists g7; iexists g8
      isplitl [H5 H6 H7 H8]
      · isplitl [H5]; · iexact H5
        isplitl [H6]; · iexact H6
        isplitl [H7]; · iexact H7
        iexact H8
      · ipureintro
        rw [hf2, hf3] at hg5 hg6 hg7 hg8
        have hs := held_succ m c t hI
        rw [← st_eq _ hg5 hg6 hg7 hg8] at hs
        exact hs
    iexact Hp
  isplitl [Ho]; · iexact Ho
  isplitl [H2]
  · iexists f2; isplitr; · ipureintro; exact hf2
    iexact H2
  isplitl [H3]
  · iexists f3; isplitr; · ipureintro; exact hf3
    iexact H3
  by_cases h31 : t.val % 32 = 31
  · have hi1 : idle0 2 (grid0.coords t) = false := hi.trans (by rw [decide_eq_true h31]; rfl)
    rw [hi1]
    iexists g4; isplitr
    · ipureintro
      have hr := hg4.1 (e.trans h31)
      rw [hf2, hf3] at hr
      rw [hr, vafter_2]
      funext y
      have hl := held_last m hfin c t h31 hI (y 0) (y 1)
      generalize stp (grid0.coords t) (iblk m c 0 t) (iblk m c 1 t) (stOf f5 f6 f7 f8) = σ at hl ⊢
      rw [← ix2_self y] at hl ⊢
      exact hl
    iexact H4
  · have hi0 : idle0 2 (grid0.coords t) = true := hi.trans (by rw [decide_eq_false h31]; rfl)
    have hf0 : (win0 2).flush t = false := flush_2 t h31
    rw [hi0, hf0]
    have hg := hg4.2 (by rw [e]; exact h31)
    rw [hg]
    iexists d4; iexists f4; isplitr; · ipureintro; exact hf4
    iexact H4

/-- The array the launch leaves is the reference's. -/
theorem arr_eq (c : Dev nD) : (vdats m 0 c).arrAt 2 cfg0.N = Ref.refIdx (argX m c) (argW m c) := by
  refine (vdats m 0 c).arrAt_eq_of_covers 2 _ (by decide +kernel) fun t hf y => ?_
  rw [emb2 t y, vafter_2]
  rfl

omit hfin in
/-- Before the first point the scratch buffers hold anything. -/
theorem keeps_in (c : Dev nD) : (ΦA spec0 c : sProp 𝕄) ⊢ keeps m c 0 := by
  unfold Pipeline.ΦA keeps
  rw [scopedRest0_eq]
  iintro ⟨⟨⟨%f5, H5⟩, ⟨%f6, H6⟩, ⟨%f7, H7⟩, ⟨%f8, H8⟩⟩, Hp⟩
  isplitl [H5 H6 H7 H8]
  · iexists f5; iexists f6; iexists f7; iexists f8
    isplitl [H5 H6 H7 H8]
    · isplitl [H5]; · iexact H5
      isplitl [H6]; · iexact H6
      isplitl [H7]; · iexact H7
      iexact H8
    · ipureintro
      exact held_zero m c rfl _
  iexact Hp

omit hfin in
/-- What they hold after the last is forgotten. -/
theorem keeps_out (c : Dev nD) (n : ℕ) : keeps m c n ⊢ (ΦA spec0 c : sProp 𝕄) := by
  unfold Pipeline.ΦA keeps
  rw [scopedRest0_eq]
  iintro ⟨⟨%f5, %f6, %f7, %f8, ⟨H5, H6, H7, H8⟩, %hI⟩, Hp⟩
  isplitl [H5 H6 H7 H8]
  · isplitl [H5]; · iexists _; iexact H5
    isplitl [H6]; · iexists _; iexact H6
    isplitl [H7]; · iexists _; iexact H7
    iexists _; iexact H8
  iexact Hp

set_option backward.isDefEq.respectTransparency.types false in
include hfin in
/-- Every run of the program ends, with its arrays as the launch library says. -/
theorem run_mainV : θ_run defs (onTc (τ := τ) (main (F := Ideal))) (s₀ m ρ)
    (fun r => Pipeline.FramePost cfgs (vdats m) 0 (V m) r ∧ r.2.sem = fun _ => 0) :=
  Pipeline.θ_run_frame_track (Q' := _) cfgs (vdats m) (0 : Fin 1) launch0 defs₀ 𝒱₀ m ρ main
    (hbody := fun c => (body_obligationV m hfin c).loose) (hshare := fun c => (vdats m 0 c).share_full fun _ => rfl)
    (howed := fun _ _ => rfl) (V := V m) (hmain := hmain m 𝒱₀) (hA := fun _ _ => rfl) (hin := keeps_in m) (hout := fun c => keeps_out m c _)

include hfin in
/-- The result is the reference's, and the arguments are as they were. -/
theorem value : θ_run defs (onTc (τ := τ) (main (F := Ideal))) ⟨m, fun _ => 0, ρ⟩ (fun r => ∀ c : Dev nD,
      r.2.mem ((c.tc : Thread nD τ).loc main_v0) = Ref.refIdx (argX m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h.1 c).1 2).trans (arr_eq m c), ((h.1 c).1 0).trans (((vdats m 0 c).arrAt_in 0 rfl _).trans (V_main_arg0 m c)),
      ((h.1 c).2 main_arg1 (Pipeline.mem_restRefs_of main_arg1 (by decide) (by decide))).trans (V_main_arg1 m c)⟩) (run_mainV m ρ hfin)

end Cert.Proof.KernelIdeal.Val
end
-- ==== Proof.lean ====
/- The claim, put together from the frames and the value of the two programs. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KFrame
public import proofs.«01_k».proof.Proof.IFrame
public import proofs.«01_k».proof.Proof.IVal

@[expose] public section

noncomputable section

namespace Cert.Proof

open Idealize.ShloMosaic Idealize.ShloMosaic.TcCoe

/-- The reference's run leaves its arguments and every counter as they were. -/
theorem frame_r : Cert.quiescent_ReferenceIdeal := by
  intro m ρ _
  exact (θ_run Cert.ReferenceIdeal.defs _ _).mono
    (fun r h => ⟨fun c => (h c).2, sem_eq_zero_of_no_sems (by decide) r.2⟩)
    (Cert.ReferenceIdeal.Value.run (F := Ideal) m ρ)

/-- The kernel's run leaves its arguments and every counter as they were. -/
theorem frame_k : Cert.quiescent_Kernel := fun m ρ _ => Cert.Proof.Kernel.frame m ρ

/-- The idealized kernel's run leaves its arguments and every counter as they were. -/
theorem frame_i : Cert.quiescent_KernelIdeal := fun m ρ _ => Cert.Proof.KernelIdeal.frame m ρ

/-- The shape facts of the condition on the inputs. -/
theorem facts_finite : Cert.Pre_finite.Facts where
  bcast_S_S1024x32 := by decide
  reducesTo_S1024x32_S_d0_1 := by decide
  h_S_ := by decide
  bcast_S_S100000x32 := by decide
  reducesTo_S100000x32_S_d0_1 := by decide

/-- On finite inputs the idealized kernel leaves the columns the reference leaves. -/
theorem value_i : Cert.algebraic_KernelIdeal_ReferenceIdeal_pre_finite (hPre_finite := facts_finite) := by
  intro m g m' g' hpre hag
  have hfin : ∀ c, (∀ i, Ref.Fin' (KernelIdeal.Val.argX m c i)) ∧ ∀ i, Ref.Fin' (KernelIdeal.Val.argW m c i) :=
    fun c => @Ref.finite_args facts_finite _ _ (hpre c)
  refine ⟨fun c => Ref.refIdx (KernelIdeal.Val.argX m c) (KernelIdeal.Val.argW m c), KernelIdeal.Val.value m g hfin, ?_⟩
  refine (θ_run Cert.ReferenceIdeal.defs _ _).mono (fun r h c => ⟨(h c).1.trans ?_, (h c).2⟩) (Cert.ReferenceIdeal.Value.run (F := Ideal) m' g')
  rw [(hag c).1, (hag c).2]
  rfl

theorem claim : Cert.Claim :=
  ⟨Cert.Kernel.Gen.facts, Cert.KernelIdeal.Gen.facts, Cert.ReferenceIdeal.Gen.facts, facts_finite,
    frame_k, frame_i, fun m ρ _ => frame_i m ρ trivial, frame_r, fun m ρ _ => frame_r m ρ trivial, trivial, value_i⟩

end Cert.Proof
end
